-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "start" .f32 0x7F61B1E6#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x32768x16 : Shape := ⟨3, ![64, 32768, 16]⟩
abbrev S64x32768 : Shape := ⟨2, ![64, 32768]⟩
abbrev S_ : Shape := ⟨0, ![]⟩
abbrev S64 : Shape := ⟨1, ![64]⟩
abbrev S64x1 : Shape := ⟨2, ![64, 1]⟩
abbrev S64x32x8x128 : Shape := ⟨4, ![64, 32, 8, 128]⟩
abbrev S64x4096x8x1x128 : Shape := ⟨5, ![64, 4096, 8, 1, 128]⟩
abbrev S1x32x8x128 : Shape := ⟨4, ![1, 32, 8, 128]⟩
abbrev S1x1x8x1x128 : Shape := ⟨5, ![1, 1, 8, 1, 128]⟩
abbrev S8x8x128 : Shape := ⟨3, ![8, 8, 128]⟩
abbrev S1x1x8x128 : Shape := ⟨4, ![1, 1, 8, 128]⟩
abbrev S8x128 : Shape := ⟨2, ![8, 128]⟩
abbrev S1x8x128 : Shape := ⟨3, ![1, 8, 128]⟩
abbrev S8x8 : Shape := ⟨2, ![8, 8]⟩
abbrev S8x8x1 : Shape := ⟨3, ![8, 8, 1]⟩
abbrev S8x1 : Shape := ⟨2, ![8, 1]⟩
abbrev S8x1x1 : Shape := ⟨3, ![8, 1, 1]⟩
abbrev S8x1x128 : Shape := ⟨3, ![8, 1, 128]⟩
abbrev S64x4096x8x1x1 : Shape := ⟨5, ![64, 4096, 8, 1, 1]⟩
abbrev S64x4096x8 : Shape := ⟨3, ![64, 4096, 8]⟩
abbrev S64x32768x1 : Shape := ⟨3, ![64, 32768, 1]⟩
abbrev S1 : Shape := ⟨1, ![1]⟩
abbrev S1x1x1 : Shape := ⟨3, ![1, 1, 1]⟩

abbrev nBuf : Space → Nat
  | .hbm => 124
  | .vmem => 4
  | .smem => 0
  | _ => 0

abbrev bufTy : (tb : Table) → Fin (tcTables nBuf tb) → BufTy
  | .hbm, ⟨0, _⟩ => ⟨S64x32768x16, .f32⟩
  | .hbm, ⟨1, _⟩ => ⟨S64x32768, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S64x32768, .f32⟩
  | .hbm, ⟨9, _⟩ => ⟨S64x32768, .f32⟩
  | .hbm, ⟨10, _⟩ => ⟨S_, .f32⟩
  | .hbm, ⟨11, _⟩ => ⟨S64x32768, .f32⟩
  | .hbm, ⟨12, _⟩ => ⟨S64x32768, .f32⟩
  | .hbm, ⟨13, _⟩ => ⟨S64x32768, .f32⟩
  | .hbm, ⟨14, _⟩ => ⟨S64x32768, .f32⟩
  | .hbm, ⟨15, _⟩ => ⟨S64x32768, .i1⟩
  | .hbm, ⟨16, _⟩ => ⟨S64x32768, .f32⟩
  | .hbm, ⟨17, _⟩ => ⟨S64x32768, .f32⟩
  | .hbm, ⟨18, _⟩ => ⟨S64x32768, .f32⟩
  | .hbm, ⟨19, _⟩ => ⟨S64x32768, .f32⟩
  | .hbm, ⟨20, _⟩ => ⟨S64x32768, .f32⟩
  | .hbm, ⟨21, _⟩ => ⟨S64x32768, .f32⟩
  | .hbm, ⟨22, _⟩ => ⟨S64x32768, .f32⟩
  | .hbm, ⟨23, _⟩ => ⟨S64x32768, .f32⟩
  | .hbm, ⟨24, _⟩ => ⟨S_, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S64x1, .f32⟩
  | .hbm, ⟨30, _⟩ => ⟨S64x1, .f32⟩
  | .hbm, ⟨31, _⟩ => ⟨S_, .f32⟩
  | .hbm, ⟨32, _⟩ => ⟨S64x1, .f32⟩
  | .hbm, ⟨33, _⟩ => ⟨S64x1, .i1⟩
  | .hbm, ⟨34, _⟩ => ⟨S_, .f32⟩
  | .hbm, ⟨35, _⟩ => ⟨S64x1, .f32⟩
  | .hbm, ⟨36, _⟩ => ⟨S64x1, .f32⟩
  | .hbm, ⟨37, _⟩ => ⟨S64x32768, .f32⟩
  | .hbm, ⟨38, _⟩ => ⟨S64x32768, .f32⟩
  | .hbm, ⟨39, _⟩ => ⟨S64x32768, .f32⟩
  | .hbm, ⟨40, _⟩ => ⟨S_, .f32⟩
  | .hbm, ⟨41, _⟩ => ⟨S64, .f32⟩
  | .hbm, ⟨42, _⟩ => ⟨S64x1, .f32⟩
  | .hbm, ⟨43, _⟩ => ⟨S64x1, .f32⟩
  | .hbm, ⟨44, _⟩ => ⟨S64x1, .f32⟩
  | .hbm, ⟨45, _⟩ => ⟨S64x1, .f32⟩
  | .hbm, ⟨46, _⟩ => ⟨S64x1, .f32⟩
  | .hbm, ⟨47, _⟩ => ⟨S64x32768, .f32⟩
  | .hbm, ⟨48, _⟩ => ⟨S64x32768, .f32⟩
  | .hbm, ⟨49, _⟩ => ⟨S64x32x8x128, .f32⟩
  | .hbm, ⟨50, _⟩ => ⟨S64x4096x8x1x128, .i32⟩
  | .hbm, ⟨51, _⟩ => ⟨S64x4096x8x1x1, .i32⟩
  | .hbm, ⟨52, _⟩ => ⟨S64x4096x8, .i32⟩
  | .hbm, ⟨53, _⟩ => ⟨S64x32768, .i32⟩
  | .hbm, ⟨54, _⟩ => ⟨S64x32768x1, .i32⟩
  | .hbm, ⟨55, _⟩ => ⟨S_, .i32⟩
  | .hbm, ⟨56, _⟩ => ⟨S64x32768x1, .i32⟩
  | .hbm, ⟨57, _⟩ => ⟨S64x32768x1, .i1⟩
  | .hbm, ⟨58, _⟩ => ⟨S_, .i32⟩
  | .hbm, ⟨59, _⟩ => ⟨S64x32768x1, .i32⟩
  | .hbm, ⟨60, _⟩ => ⟨S64x32768x1, .i32⟩
  | .hbm, ⟨61, _⟩ => ⟨S64x32768x1, .i32⟩
  | .hbm, ⟨62, _⟩ => ⟨S1, .i32⟩
  | .hbm, ⟨63, _⟩ => ⟨S_, .i32⟩
  | .hbm, ⟨64, _⟩ => ⟨S64x32768x1, .i32⟩
  | .hbm, ⟨65, _⟩ => ⟨S64x32768x1, .i1⟩
  | .hbm, ⟨66, _⟩ => ⟨S1x1x1, .i32⟩
  | .hbm, ⟨67, _⟩ => ⟨S64x32768x1, .i32⟩
  | .hbm, ⟨68, _⟩ => ⟨S64x32768x1, .i1⟩
  | .hbm, ⟨69, _⟩ => ⟨S64x32768x1, .i1⟩
  | .hbm, ⟨70, _⟩ => ⟨S_, .i1⟩
  | .hbm, ⟨71, _⟩ => ⟨S64x32768, .i1⟩
  | .hbm, ⟨72, _⟩ => ⟨S64x32768x16, .f32⟩
  | .hbm, ⟨73, _⟩ => ⟨S64x32768x16, .i1⟩
  | .hbm, ⟨74, _⟩ => ⟨S_, .f32⟩
  | .hbm, ⟨75, _⟩ => ⟨S64x32768x16, .f32⟩
  | .hbm, ⟨76, _⟩ => ⟨S64x32768x16, .f32⟩
  | .hbm, ⟨77, _⟩ => ⟨S_, .i32⟩
  | .hbm, ⟨78, _⟩ => ⟨S64x32768, .i32⟩
  | .hbm, ⟨79, _⟩ => ⟨S64x32768, .i1⟩
  | .hbm, ⟨80, _⟩ => ⟨S_, .i32⟩
  | .hbm, ⟨81, _⟩ => ⟨S64x32768, .i32⟩
  | .hbm, ⟨82, _⟩ => ⟨S64x32768, .i32⟩
  | .hbm, ⟨83, _⟩ => ⟨S64x32768, .i32⟩
  | .hbm, ⟨84, _⟩ => ⟨S64x32768x1, .i32⟩
  | .hbm, ⟨85, _⟩ => ⟨S1, .i32⟩
  | .hbm, ⟨86, _⟩ => ⟨S_, .i32⟩
  | .hbm, ⟨87, _⟩ => ⟨S64x32768x1, .i32⟩
  | .hbm, ⟨88, _⟩ => ⟨S64x32768x1, .i1⟩
  | .hbm, ⟨89, _⟩ => ⟨S1x1x1, .i32⟩
  | .hbm, ⟨90, _⟩ => ⟨S64x32768x1, .i32⟩
  | .hbm, ⟨91, _⟩ => ⟨S64x32768x1, .i1⟩
  | .hbm, ⟨92, _⟩ => ⟨S64x32768x1, .i1⟩
  | .hbm, ⟨93, _⟩ => ⟨S_, .i1⟩
  | .hbm, ⟨94, _⟩ => ⟨S64x32768, .i1⟩
  | .hbm, ⟨95, _⟩ => ⟨S64x32768, .f32⟩
  | .hbm, ⟨96, _⟩ => ⟨S_, .f32⟩
  | .hbm, ⟨97, _⟩ => ⟨S64x32768, .f32⟩
  | .hbm, ⟨98, _⟩ => ⟨S64x32768, .f32⟩
  | .hbm, ⟨99, _⟩ => ⟨S_, .i32⟩
  | .hbm, ⟨100, _⟩ => ⟨S64x32768, .i32⟩
  | .hbm, ⟨101, _⟩ => ⟨S64x32768, .i1⟩
  | .hbm, ⟨102, _⟩ => ⟨S_, .i32⟩
  | .hbm, ⟨103, _⟩ => ⟨S64x32768, .i32⟩
  | .hbm, ⟨104, _⟩ => ⟨S64x32768, .i32⟩
  | .hbm, ⟨105, _⟩ => ⟨S64x32768, .i32⟩
  | .hbm, ⟨106, _⟩ => ⟨S64x32768x1, .i32⟩
  | .hbm, ⟨107, _⟩ => ⟨S1, .i32⟩
  | .hbm, ⟨108, _⟩ => ⟨S_, .i32⟩
  | .hbm, ⟨109, _⟩ => ⟨S64x32768x1, .i32⟩
  | .hbm, ⟨110, _⟩ => ⟨S64x32768x1, .i1⟩
  | .hbm, ⟨111, _⟩ => ⟨S1x1x1, .i32⟩
  | .hbm, ⟨112, _⟩ => ⟨S64x32768x1, .i32⟩
  | .hbm, ⟨113, _⟩ => ⟨S64x32768x1, .i1⟩
  | .hbm, ⟨114, _⟩ => ⟨S64x32768x1, .i1⟩
  | .hbm, ⟨115, _⟩ => ⟨S_, .i1⟩
  | .hbm, ⟨116, _⟩ => ⟨S64x32768, .i1⟩
  | .hbm, ⟨117, _⟩ => ⟨S64x32768, .f32⟩
  | .hbm, ⟨118, _⟩ => ⟨S_, .f32⟩
  | .hbm, ⟨119, _⟩ => ⟨S64x32768, .f32⟩
  | .hbm, ⟨120, _⟩ => ⟨S64x32768, .f32⟩
  | .hbm, ⟨121, _⟩ => ⟨S64x32768, .f32⟩
  | .hbm, ⟨122, _⟩ => ⟨S64x32768, .f32⟩
  | .hbm, ⟨123, _⟩ => ⟨S64x32768, .f32⟩
  | .local _ .vmem, ⟨0, _⟩ => ⟨S1x32x8x128, .f32⟩
  | .local _ .vmem, ⟨1, _⟩ => ⟨S1x32x8x128, .f32⟩
  | .local _ .vmem, ⟨2, _⟩ => ⟨S1x1x8x1x128, .i32⟩
  | .local _ .vmem, ⟨3, _⟩ => ⟨S1x1x8x1x128, .i32⟩
  | _, _ => ⟨S64x32768x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_call0_c : Ref sig .tc := ⟨.hbm, 55, rfl⟩
abbrev main_call0_v0 : Ref sig .tc := ⟨.hbm, 56, rfl⟩
abbrev main_call0_v1 : Ref sig .tc := ⟨.hbm, 57, rfl⟩
abbrev main_call0_c_0 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_c_1 : Ref sig .tc := ⟨.hbm, 62, rfl⟩
abbrev main_call0_c_2 : Ref sig .tc := ⟨.hbm, 63, rfl⟩
abbrev main_call0_v5 : Ref sig .tc := ⟨.hbm, 64, rfl⟩
abbrev main_call0_v6 : Ref sig .tc := ⟨.hbm, 65, rfl⟩
abbrev main_call0_v7 : Ref sig .tc := ⟨.hbm, 66, rfl⟩
abbrev main_call0_v8 : Ref sig .tc := ⟨.hbm, 67, rfl⟩
abbrev main_call0_v9 : Ref sig .tc := ⟨.hbm, 68, rfl⟩
abbrev main_call0_v10 : Ref sig .tc := ⟨.hbm, 69, rfl⟩
abbrev main_call0_c_3 : Ref sig .tc := ⟨.hbm, 70, rfl⟩
abbrev main_call0_v11 : Ref sig .tc := ⟨.hbm, 71, rfl⟩
abbrev main_call0_v12 : Ref sig .tc := ⟨.hbm, 72, rfl⟩
abbrev main_call0_v13 : Ref sig .tc := ⟨.hbm, 73, rfl⟩
abbrev main_call0_cst : Ref sig .tc := ⟨.hbm, 74, rfl⟩
abbrev main_call0_v14 : Ref sig .tc := ⟨.hbm, 75, rfl⟩
abbrev main_v45 : Ref sig .tc := ⟨.hbm, 76, rfl⟩
abbrev main_call1_c : Ref sig .tc := ⟨.hbm, 77, rfl⟩
abbrev main_call1_v0 : Ref sig .tc := ⟨.hbm, 78, rfl⟩
abbrev main_call1_v1 : Ref sig .tc := ⟨.hbm, 79, rfl⟩
abbrev main_call1_c_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_c_1 : Ref sig .tc := ⟨.hbm, 85, rfl⟩
abbrev main_call1_c_2 : Ref sig .tc := ⟨.hbm, 86, rfl⟩
abbrev main_call1_v6 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_c_3 : Ref sig .tc := ⟨.hbm, 93, rfl⟩
abbrev main_call1_v12 : Ref sig .tc := ⟨.hbm, 94, rfl⟩
abbrev main_call1_v13 : Ref sig .tc := ⟨.hbm, 95, rfl⟩
abbrev main_call1_cst : Ref sig .tc := ⟨.hbm, 96, rfl⟩
abbrev main_call1_v14 : Ref sig .tc := ⟨.hbm, 97, rfl⟩
abbrev main_v46 : Ref sig .tc := ⟨.hbm, 98, rfl⟩
abbrev main_call2_c : Ref sig .tc := ⟨.hbm, 99, rfl⟩
abbrev main_call2_v0 : Ref sig .tc := ⟨.hbm, 100, rfl⟩
abbrev main_call2_v1 : Ref sig .tc := ⟨.hbm, 101, rfl⟩
abbrev main_call2_c_0 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_call2_v5 : Ref sig .tc := ⟨.hbm, 106, rfl⟩
abbrev main_call2_c_1 : Ref sig .tc := ⟨.hbm, 107, rfl⟩
abbrev main_call2_c_2 : Ref sig .tc := ⟨.hbm, 108, rfl⟩
abbrev main_call2_v6 : Ref sig .tc := ⟨.hbm, 109, rfl⟩
abbrev main_call2_v7 : Ref sig .tc := ⟨.hbm, 110, rfl⟩
abbrev main_call2_v8 : Ref sig .tc := ⟨.hbm, 111, rfl⟩
abbrev main_call2_v9 : Ref sig .tc := ⟨.hbm, 112, rfl⟩
abbrev main_call2_v10 : Ref sig .tc := ⟨.hbm, 113, rfl⟩
abbrev main_call2_v11 : Ref sig .tc := ⟨.hbm, 114, rfl⟩
abbrev main_call2_c_3 : Ref sig .tc := ⟨.hbm, 115, rfl⟩
abbrev main_call2_v12 : Ref sig .tc := ⟨.hbm, 116, rfl⟩
abbrev main_call2_v13 : Ref sig .tc := ⟨.hbm, 117, rfl⟩
abbrev main_call2_cst : Ref sig .tc := ⟨.hbm, 118, rfl⟩
abbrev main_call2_v14 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![64, 4096], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x32x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x8x1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== KernelIdeal.lean ====
variable {F : FTy → Type} [FloatOps F] [Named F]
def κ : String → Option EReal := fun
  | "start" => some ⊤
  | _ => none
-- ==== ReferenceIdeal.lean ====
abbrev S64x32768x16 : Shape := ⟨3, ![64, 32768, 16]⟩
abbrev S64x32768 : Shape := ⟨2, ![64, 32768]⟩
abbrev S_ : Shape := ⟨0, ![]⟩
abbrev S64 : Shape := ⟨1, ![64]⟩
abbrev S64x1 : Shape := ⟨2, ![64, 1]⟩
abbrev S1 : Shape := ⟨1, ![1]⟩
abbrev S2 : Shape := ⟨1, ![2]⟩
abbrev S1x1x1 : Shape := ⟨3, ![1, 1, 1]⟩
abbrev S32768x64x32768 : Shape := ⟨3, ![32768, 64, 32768]⟩
abbrev S1x64x32768 : Shape := ⟨3, ![1, 64, 32768]⟩
abbrev S32768x64 : Shape := ⟨2, ![32768, 64]⟩
abbrev S64x32768x1 : Shape := ⟨3, ![64, 32768, 1]⟩

abbrev nBuf : Space → Nat
  | .hbm => 407
  | .vmem => 0
  | .smem => 0
  | _ => 0

abbrev hbmTy0_0 (i : Nat) : BufTy := match i % 128 with
  | 0 => ⟨S64x32768x16, .f32⟩
  | 1 => ⟨S64x32768, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S64x32768, .f32⟩
  | 9 => ⟨S64x32768, .f32⟩
  | 10 => ⟨S_, .f32⟩
  | 11 => ⟨S64x32768, .f32⟩
  | 12 => ⟨S64x32768, .f32⟩
  | 13 => ⟨S64x32768, .f32⟩
  | 14 => ⟨S64x32768, .f32⟩
  | 15 => ⟨S64x32768, .i1⟩
  | 16 => ⟨S64x32768, .f32⟩
  | 17 => ⟨S64x32768, .f32⟩
  | 18 => ⟨S64x32768, .f32⟩
  | 19 => ⟨S64x32768, .f32⟩
  | 20 => ⟨S64x32768, .f32⟩
  | 21 => ⟨S64x32768, .f32⟩
  | 22 => ⟨S64x32768, .f32⟩
  | 23 => ⟨S64x32768, .f32⟩
  | 24 => ⟨S_, .f32⟩
  | 25 => ⟨S64, .f32⟩
  | 26 => ⟨S64x1, .f32⟩
  | 27 => ⟨S64x1, .f32⟩
  | 28 => ⟨S_, .f32⟩
  | 29 => ⟨S64x1, .f32⟩
  | 30 => ⟨S64x1, .i1⟩
  | 31 => ⟨S_, .f32⟩
  | 32 => ⟨S_, .f32⟩
  | 33 => ⟨S64x1, .f32⟩
  | 34 => ⟨S64x1, .f32⟩
  | 35 => ⟨S64x32768, .f32⟩
  | 36 => ⟨S64x32768, .f32⟩
  | 37 => ⟨S64x32768, .f32⟩
  | 38 => ⟨S_, .f32⟩
  | 39 => ⟨S64, .f32⟩
  | 40 => ⟨S64x1, .f32⟩
  | 41 => ⟨S64x1, .f32⟩
  | 42 => ⟨S64x1, .f32⟩
  | 43 => ⟨S64x32768, .f32⟩
  | 44 => ⟨S64x32768, .f32⟩
  | 45 => ⟨S_, .i32⟩
  | 46 => ⟨S_, .i32⟩
  | 47 => ⟨S_, .i32⟩
  | 48 => ⟨S_, .i32⟩
  | 49 => ⟨S1, .i32⟩
  | 50 => ⟨S_, .i32⟩
  | 51 => ⟨S_, .i32⟩
  | 52 => ⟨S_, .i32⟩
  | 53 => ⟨S1, .i32⟩
  | 54 => ⟨S2, .i32⟩
  | 55 => ⟨S_, .f32⟩
  | 56 => ⟨S_, .f32⟩
  | 57 => ⟨S_, .f32⟩
  | 58 => ⟨S_, .f32⟩
  | 59 => ⟨S1x1x1, .f32⟩
  | 60 => ⟨S1x1x1, .f32⟩
  | 61 => ⟨S1, .i32⟩
  | 62 => ⟨S_, .i32⟩
  | 63 => ⟨S1, .i32⟩
  | 64 => ⟨S_, .i32⟩
  | 65 => ⟨S32768x64x32768, .i64⟩
  | 66 => ⟨S32768x64x32768, .i64⟩
  | 67 => ⟨S32768x64x32768, .i64⟩
  | 68 => ⟨S_, .i64⟩
  | 69 => ⟨S32768x64x32768, .i64⟩
  | 70 => ⟨S32768x64x32768, .i64⟩
  | 71 => ⟨S_, .i64⟩
  | 72 => ⟨S32768x64x32768, .i64⟩
  | 73 => ⟨S32768x64x32768, .i64⟩
  | 74 => ⟨S_, .i64⟩
  | 75 => ⟨S32768x64x32768, .i64⟩
  | 76 => ⟨S32768x64x32768, .i64⟩
  | 77 => ⟨S32768x64x32768, .i64⟩
  | 78 => ⟨S32768x64x32768, .i64⟩
  | 79 => ⟨S_, .i64⟩
  | 80 => ⟨S32768x64x32768, .i64⟩
  | 81 => ⟨S32768x64x32768, .i64⟩
  | 82 => ⟨S32768x64x32768, .i32⟩
  | 83 => ⟨S32768x64x32768, .i32⟩
  | 84 => ⟨S_, .i32⟩
  | 85 => ⟨S_, .i32⟩
  | 86 => ⟨S_, .i32⟩
  | 87 => ⟨S32768x64x32768, .i32⟩
  | 88 => ⟨S32768x64x32768, .i32⟩
  | 89 => ⟨S32768x64x32768, .i32⟩
  | 90 => ⟨S32768x64x32768, .i32⟩
  | 91 => ⟨S32768x64x32768, .i32⟩
  | 92 => ⟨S_, .i32⟩
  | 93 => ⟨S32768x64x32768, .i32⟩
  | 94 => ⟨S32768x64x32768, .i32⟩
  | 95 => ⟨S_, .i32⟩
  | 96 => ⟨S32768x64x32768, .i32⟩
  | 97 => ⟨S32768x64x32768, .i32⟩
  | 98 => ⟨S32768x64x32768, .i32⟩
  | 99 => ⟨S32768x64x32768, .i32⟩
  | 100 => ⟨S32768x64x32768, .i32⟩
  | 101 => ⟨S_, .i32⟩
  | 102 => ⟨S32768x64x32768, .i32⟩
  | 103 => ⟨S32768x64x32768, .i32⟩
  | 104 => ⟨S_, .i32⟩
  | 105 => ⟨S32768x64x32768, .i32⟩
  | 106 => ⟨S32768x64x32768, .i32⟩
  | 107 => ⟨S32768x64x32768, .i32⟩
  | 108 => ⟨S32768x64x32768, .i32⟩
  | 109 => ⟨S32768x64x32768, .i32⟩
  | 110 => ⟨S_, .i32⟩
  | 111 => ⟨S32768x64x32768, .i32⟩
  | 112 => ⟨S32768x64x32768, .i32⟩
  | 113 => ⟨S_, .i32⟩
  | 114 => ⟨S32768x64x32768, .i32⟩
  | 115 => ⟨S32768x64x32768, .i32⟩
  | 116 => ⟨S32768x64x32768, .i32⟩
  | 117 => ⟨S32768x64x32768, .i32⟩
  | 118 => ⟨S32768x64x32768, .i32⟩
  | 119 => ⟨S_, .i32⟩
  | 120 => ⟨S32768x64x32768, .i32⟩
  | 121 => ⟨S32768x64x32768, .i32⟩
  | 122 => ⟨S_, .i32⟩
  | 123 => ⟨S32768x64x32768, .i32⟩
  | 124 => ⟨S32768x64x32768, .i32⟩
  | 125 => ⟨S32768x64x32768, .i32⟩
  | 126 => ⟨S32768x64x32768, .i32⟩
  | 127 => ⟨S32768x64x32768, .i32⟩
  | _ => ⟨S64x32768x16, .f32⟩

abbrev hbmTy0_1 (i : Nat) : BufTy := match i % 128 with
  | 0 => ⟨S32768x64x32768, .i32⟩
  | 1 => ⟨S32768x64x32768, .i32⟩
  | 2 => ⟨S32768x64x32768, .i32⟩
  | 3 => ⟨S_, .i32⟩
  | 4 => ⟨S32768x64x32768, .i32⟩
  | 5 => ⟨S32768x64x32768, .i32⟩
  | 6 => ⟨S32768x64x32768, .i32⟩
  | 7 => ⟨S_, .i32⟩
  | 8 => ⟨S32768x64x32768, .i32⟩
  | 9 => ⟨S32768x64x32768, .i32⟩
  | 10 => ⟨S_, .i32⟩
  | 11 => ⟨S32768x64x32768, .i32⟩
  | 12 => ⟨S32768x64x32768, .i32⟩
  | 13 => ⟨S32768x64x32768, .i32⟩
  | 14 => ⟨S32768x64x32768, .i32⟩
  | 15 => ⟨S32768x64x32768, .i32⟩
  | 16 => ⟨S_, .i32⟩
  | 17 => ⟨S32768x64x32768, .i32⟩
  | 18 => ⟨S32768x64x32768, .i32⟩
  | 19 => ⟨S_, .i32⟩
  | 20 => ⟨S32768x64x32768, .i32⟩
  | 21 => ⟨S32768x64x32768, .i32⟩
  | 22 => ⟨S32768x64x32768, .i32⟩
  | 23 => ⟨S32768x64x32768, .i32⟩
  | 24 => ⟨S32768x64x32768, .i32⟩
  | 25 => ⟨S_, .i32⟩
  | 26 => ⟨S32768x64x32768, .i32⟩
  | 27 => ⟨S32768x64x32768, .i32⟩
  | 28 => ⟨S_, .i32⟩
  | 29 => ⟨S32768x64x32768, .i32⟩
  | 30 => ⟨S32768x64x32768, .i32⟩
  | 31 => ⟨S32768x64x32768, .i32⟩
  | 32 => ⟨S32768x64x32768, .i32⟩
  | 33 => ⟨S32768x64x32768, .i32⟩
  | 34 => ⟨S_, .i32⟩
  | 35 => ⟨S32768x64x32768, .i32⟩
  | 36 => ⟨S32768x64x32768, .i32⟩
  | 37 => ⟨S_, .i32⟩
  | 38 => ⟨S32768x64x32768, .i32⟩
  | 39 => ⟨S32768x64x32768, .i32⟩
  | 40 => ⟨S32768x64x32768, .i32⟩
  | 41 => ⟨S32768x64x32768, .i32⟩
  | 42 => ⟨S32768x64x32768, .i32⟩
  | 43 => ⟨S32768x64x32768, .i32⟩
  | 44 => ⟨S32768x64x32768, .i32⟩
  | 45 => ⟨S32768x64x32768, .i32⟩
  | 46 => ⟨S_, .i32⟩
  | 47 => ⟨S32768x64x32768, .i32⟩
  | 48 => ⟨S32768x64x32768, .i32⟩
  | 49 => ⟨S32768x64x32768, .i32⟩
  | 50 => ⟨S_, .i32⟩
  | 51 => ⟨S32768x64x32768, .i32⟩
  | 52 => ⟨S32768x64x32768, .i32⟩
  | 53 => ⟨S_, .i32⟩
  | 54 => ⟨S32768x64x32768, .i32⟩
  | 55 => ⟨S32768x64x32768, .i32⟩
  | 56 => ⟨S32768x64x32768, .i32⟩
  | 57 => ⟨S32768x64x32768, .i32⟩
  | 58 => ⟨S32768x64x32768, .i32⟩
  | 59 => ⟨S_, .i32⟩
  | 60 => ⟨S32768x64x32768, .i32⟩
  | 61 => ⟨S32768x64x32768, .i32⟩
  | 62 => ⟨S_, .i32⟩
  | 63 => ⟨S32768x64x32768, .i32⟩
  | 64 => ⟨S32768x64x32768, .i32⟩
  | 65 => ⟨S32768x64x32768, .i32⟩
  | 66 => ⟨S32768x64x32768, .i32⟩
  | 67 => ⟨S32768x64x32768, .i32⟩
  | 68 => ⟨S_, .i32⟩
  | 69 => ⟨S32768x64x32768, .i32⟩
  | 70 => ⟨S32768x64x32768, .i32⟩
  | 71 => ⟨S_, .i32⟩
  | 72 => ⟨S32768x64x32768, .i32⟩
  | 73 => ⟨S32768x64x32768, .i32⟩
  | 74 => ⟨S32768x64x32768, .i32⟩
  | 75 => ⟨S32768x64x32768, .i32⟩
  | 76 => ⟨S32768x64x32768, .i32⟩
  | 77 => ⟨S_, .i32⟩
  | 78 => ⟨S32768x64x32768, .i32⟩
  | 79 => ⟨S32768x64x32768, .i32⟩
  | 80 => ⟨S_, .i32⟩
  | 81 => ⟨S32768x64x32768, .i32⟩
  | 82 => ⟨S32768x64x32768, .i32⟩
  | 83 => ⟨S32768x64x32768, .i32⟩
  | 84 => ⟨S32768x64x32768, .i32⟩
  | 85 => ⟨S32768x64x32768, .i32⟩
  | 86 => ⟨S32768x64x32768, .i32⟩
  | 87 => ⟨S32768x64x32768, .i32⟩
  | 88 => ⟨S32768x64x32768, .i32⟩
  | 89 => ⟨S_, .i32⟩
  | 90 => ⟨S32768x64x32768, .i32⟩
  | 91 => ⟨S32768x64x32768, .i32⟩
  | 92 => ⟨S32768x64x32768, .i32⟩
  | 93 => ⟨S_, .i32⟩
  | 94 => ⟨S32768x64x32768, .i32⟩
  | 95 => ⟨S32768x64x32768, .i32⟩
  | 96 => ⟨S_, .i32⟩
  | 97 => ⟨S32768x64x32768, .i32⟩
  | 98 => ⟨S32768x64x32768, .i32⟩
  | 99 => ⟨S32768x64x32768, .i32⟩
  | 100 => ⟨S32768x64x32768, .i32⟩
  | 101 => ⟨S32768x64x32768, .i32⟩
  | 102 => ⟨S_, .i32⟩
  | 103 => ⟨S32768x64x32768, .i32⟩
  | 104 => ⟨S32768x64x32768, .i32⟩
  | 105 => ⟨S_, .i32⟩
  | 106 => ⟨S32768x64x32768, .i32⟩
  | 107 => ⟨S32768x64x32768, .i32⟩
  | 108 => ⟨S32768x64x32768, .i32⟩
  | 109 => ⟨S32768x64x32768, .i32⟩
  | 110 => ⟨S32768x64x32768, .i32⟩
  | 111 => ⟨S_, .i32⟩
  | 112 => ⟨S32768x64x32768, .i32⟩
  | 113 => ⟨S32768x64x32768, .i32⟩
  | 114 => ⟨S_, .i32⟩
  | 115 => ⟨S32768x64x32768, .i32⟩
  | 116 => ⟨S32768x64x32768, .i32⟩
  | 117 => ⟨S32768x64x32768, .i32⟩
  | 118 => ⟨S32768x64x32768, .i32⟩
  | 119 => ⟨S32768x64x32768, .i32⟩
  | 120 => ⟨S_, .i32⟩
  | 121 => ⟨S32768x64x32768, .i32⟩
  | 122 => ⟨S32768x64x32768, .i32⟩
  | 123 => ⟨S_, .i32⟩
  | 124 => ⟨S32768x64x32768, .i32⟩
  | 125 => ⟨S32768x64x32768, .i32⟩
  | 126 => ⟨S32768x64x32768, .i32⟩
  | 127 => ⟨S32768x64x32768, .i32⟩
  | _ => ⟨S64x32768x16, .f32⟩

abbrev hbmTy0_2 (i : Nat) : BufTy := match i % 128 with
  | 0 => ⟨S32768x64x32768, .i32⟩
  | 1 => ⟨S32768x64x32768, .i32⟩
  | 2 => ⟨S32768x64x32768, .i32⟩
  | 3 => ⟨S32768x64x32768, .i32⟩
  | 4 => ⟨S_, .i32⟩
  | 5 => ⟨S32768x64x32768, .i32⟩
  | 6 => ⟨S32768x64x32768, .i32⟩
  | 7 => ⟨S32768x64x32768, .i32⟩
  | 8 => ⟨S_, .i32⟩
  | 9 => ⟨S32768x64x32768, .i32⟩
  | 10 => ⟨S32768x64x32768, .i32⟩
  | 11 => ⟨S_, .i32⟩
  | 12 => ⟨S32768x64x32768, .i32⟩
  | 13 => ⟨S32768x64x32768, .i32⟩
  | 14 => ⟨S32768x64x32768, .i32⟩
  | 15 => ⟨S32768x64x32768, .i32⟩
  | 16 => ⟨S32768x64x32768, .i32⟩
  | 17 => ⟨S_, .i32⟩
  | 18 => ⟨S32768x64x32768, .i32⟩
  | 19 => ⟨S32768x64x32768, .i32⟩
  | 20 => ⟨S_, .i32⟩
  | 21 => ⟨S32768x64x32768, .i32⟩
  | 22 => ⟨S32768x64x32768, .i32⟩
  | 23 => ⟨S32768x64x32768, .i32⟩
  | 24 => ⟨S32768x64x32768, .i32⟩
  | 25 => ⟨S32768x64x32768, .i32⟩
  | 26 => ⟨S_, .i32⟩
  | 27 => ⟨S32768x64x32768, .i32⟩
  | 28 => ⟨S32768x64x32768, .i32⟩
  | 29 => ⟨S_, .i32⟩
  | 30 => ⟨S32768x64x32768, .i32⟩
  | 31 => ⟨S32768x64x32768, .i32⟩
  | 32 => ⟨S32768x64x32768, .i32⟩
  | 33 => ⟨S32768x64x32768, .i32⟩
  | 34 => ⟨S32768x64x32768, .i32⟩
  | 35 => ⟨S_, .i32⟩
  | 36 => ⟨S32768x64x32768, .i32⟩
  | 37 => ⟨S32768x64x32768, .i32⟩
  | 38 => ⟨S_, .i32⟩
  | 39 => ⟨S32768x64x32768, .i32⟩
  | 40 => ⟨S32768x64x32768, .i32⟩
  | 41 => ⟨S32768x64x32768, .i32⟩
  | 42 => ⟨S32768x64x32768, .i32⟩
  | 43 => ⟨S32768x64x32768, .i32⟩
  | 44 => ⟨S32768x64x32768, .i32⟩
  | 45 => ⟨S32768x64x32768, .i32⟩
  | 46 => ⟨S32768x64x32768, .i32⟩
  | 47 => ⟨S_, .i32⟩
  | 48 => ⟨S32768x64x32768, .i32⟩
  | 49 => ⟨S32768x64x32768, .i32⟩
  | 50 => ⟨S32768x64x32768, .i32⟩
  | 51 => ⟨S_, .i32⟩
  | 52 => ⟨S32768x64x32768, .i32⟩
  | 53 => ⟨S32768x64x32768, .i32⟩
  | 54 => ⟨S_, .i32⟩
  | 55 => ⟨S32768x64x32768, .i32⟩
  | 56 => ⟨S32768x64x32768, .i32⟩
  | 57 => ⟨S32768x64x32768, .f32⟩
  | 58 => ⟨S_, .f32⟩
  | 59 => ⟨S32768x64x32768, .f32⟩
  | 60 => ⟨S32768x64x32768, .f32⟩
  | 61 => ⟨S1x1x1, .f32⟩
  | 62 => ⟨S32768x64x32768, .f32⟩
  | 63 => ⟨S32768x64x32768, .f32⟩
  | 64 => ⟨S32768x64x32768, .f32⟩
  | 65 => ⟨S32768x64x32768, .f32⟩
  | 66 => ⟨S32768x64x32768, .f32⟩
  | 67 => ⟨S32768x64x32768, .f32⟩
  | 68 => ⟨S32768x64x32768, .f32⟩
  | 69 => ⟨S32768x64x32768, .f32⟩
  | 70 => ⟨S32768x64x32768, .f32⟩
  | 71 => ⟨S32768x64x32768, .f32⟩
  | 72 => ⟨S1x64x32768, .f32⟩
  | 73 => ⟨S32768x64x32768, .f32⟩
  | 74 => ⟨S32768x64x32768, .f32⟩
  | 75 => ⟨S32768x64x32768, .i32⟩
  | 76 => ⟨S_, .f32⟩
  | 77 => ⟨S_, .i32⟩
  | 78 => ⟨S32768x64, .f32⟩
  | 79 => ⟨S32768x64, .i32⟩
  | 80 => ⟨S64x32768, .i32⟩
  | 81 => ⟨S64x32768x1, .i32⟩
  | 82 => ⟨S_, .i32⟩
  | 83 => ⟨S64x32768x1, .i32⟩
  | 84 => ⟨S64x32768x1, .i1⟩
  | 85 => ⟨S_, .i32⟩
  | 86 => ⟨S64x32768x1, .i32⟩
  | 87 => ⟨S64x32768x1, .i32⟩
  | 88 => ⟨S64x32768x1, .i32⟩
  | 89 => ⟨S1, .i32⟩
  | 90 => ⟨S_, .i32⟩
  | 91 => ⟨S64x32768x1, .i32⟩
  | 92 => ⟨S64x32768x1, .i1⟩
  | 93 => ⟨S1x1x1, .i32⟩
  | 94 => ⟨S64x32768x1, .i32⟩
  | 95 => ⟨S64x32768x1, .i1⟩
  | 96 => ⟨S64x32768x1, .i1⟩
  | 97 => ⟨S_, .i1⟩
  | 98 => ⟨S64x32768, .i1⟩
  | 99 => ⟨S64x32768x16, .f32⟩
  | 100 => ⟨S64x32768x16, .i1⟩
  | 101 => ⟨S_, .f32⟩
  | 102 => ⟨S64x32768x16, .f32⟩
  | 103 => ⟨S64x32768x16, .f32⟩
  | 104 => ⟨S_, .i32⟩
  | 105 => ⟨S64x32768, .i32⟩
  | 106 => ⟨S64x32768, .i1⟩
  | 107 => ⟨S_, .i32⟩
  | 108 => ⟨S64x32768, .i32⟩
  | 109 => ⟨S64x32768, .i32⟩
  | 110 => ⟨S64x32768, .i32⟩
  | 111 => ⟨S64x32768x1, .i32⟩
  | 112 => ⟨S1, .i32⟩
  | 113 => ⟨S_, .i32⟩
  | 114 => ⟨S64x32768x1, .i32⟩
  | 115 => ⟨S64x32768x1, .i1⟩
  | 116 => ⟨S1x1x1, .i32⟩
  | 117 => ⟨S64x32768x1, .i32⟩
  | 118 => ⟨S64x32768x1, .i1⟩
  | 119 => ⟨S64x32768x1, .i1⟩
  | 120 => ⟨S_, .i1⟩
  | 121 => ⟨S64x32768, .i1⟩
  | 122 => ⟨S64x32768, .f32⟩
  | 123 => ⟨S_, .f32⟩
  | 124 => ⟨S64x32768, .f32⟩
  | 125 => ⟨S64x32768, .f32⟩
  | 126 => ⟨S_, .i32⟩
  | 127 => ⟨S64x32768, .i32⟩
  | _ => ⟨S64x32768x16, .f32⟩

abbrev hbmTy0_3 (i : Nat) : BufTy := match i % 128 with
  | 0 => ⟨S64x32768, .i1⟩
  | 1 => ⟨S_, .i32⟩
  | 2 => ⟨S64x32768, .i32⟩
  | 3 => ⟨S64x32768, .i32⟩
  | 4 => ⟨S64x32768, .i32⟩
  | 5 => ⟨S64x32768x1, .i32⟩
  | 6 => ⟨S1, .i32⟩
  | 7 => ⟨S_, .i32⟩
  | 8 => ⟨S64x32768x1, .i32⟩
  | 9 => ⟨S64x32768x1, .i1⟩
  | 10 => ⟨S1x1x1, .i32⟩
  | 11 => ⟨S64x32768x1, .i32⟩
  | 12 => ⟨S64x32768x1, .i1⟩
  | 13 => ⟨S64x32768x1, .i1⟩
  | 14 => ⟨S_, .i1⟩
  | 15 => ⟨S64x32768, .i1⟩
  | 16 => ⟨S64x32768, .f32⟩
  | 17 => ⟨S_, .f32⟩
  | 18 => ⟨S64x32768, .f32⟩
  | 19 => ⟨S64x32768, .f32⟩
  | 20 => ⟨S64x32768, .f32⟩
  | 21 => ⟨S64x32768, .f32⟩
  | 22 => ⟨S64x32768, .f32⟩
  | _ => ⟨S64x32768x16, .f32⟩

abbrev hbmTy (i : Nat) : BufTy := match i / 128 with
  | 0 => hbmTy0_0 i
  | 1 => hbmTy0_1 i
  | 2 => hbmTy0_2 i
  | 3 => hbmTy0_3 i
  | _ => ⟨S64x32768x16, .f32⟩

abbrev bufTy : (tb : Table) → Fin (tcTables nBuf tb) → BufTy
  | .hbm, ⟨i, _⟩ => hbmTy i
  | _, _ => ⟨S64x32768x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_cst_9 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_c : Ref sig .tc := ⟨.hbm, 68, rfl⟩
abbrev main_call1_v11 : Ref sig .tc := ⟨.hbm, 69, rfl⟩
abbrev main_call1_v12 : Ref sig .tc := ⟨.hbm, 70, rfl⟩
abbrev main_call1_c_0 : Ref sig .tc := ⟨.hbm, 71, rfl⟩
abbrev main_call1_v13 : Ref sig .tc := ⟨.hbm, 72, rfl⟩
abbrev main_call1_v14 : Ref sig .tc := ⟨.hbm, 73, rfl⟩
abbrev main_call1_c_1 : Ref sig .tc := ⟨.hbm, 74, rfl⟩
abbrev main_call1_v15 : Ref sig .tc := ⟨.hbm, 75, rfl⟩
abbrev main_call1_v16 : Ref sig .tc := ⟨.hbm, 76, rfl⟩
abbrev main_call1_v17 : Ref sig .tc := ⟨.hbm, 77, rfl⟩
abbrev main_call1_v18 : Ref sig .tc := ⟨.hbm, 78, rfl⟩
abbrev main_call1_c_2 : Ref sig .tc := ⟨.hbm, 79, rfl⟩
abbrev main_call1_v19 : Ref sig .tc := ⟨.hbm, 80, rfl⟩
abbrev main_call1_v20 : Ref sig .tc := ⟨.hbm, 81, rfl⟩
abbrev main_call1_v21 : Ref sig .tc := ⟨.hbm, 82, rfl⟩
abbrev main_call1_v22 : Ref sig .tc := ⟨.hbm, 83, rfl⟩
abbrev main_call1_call0_v0 : Ref sig .tc := ⟨.hbm, 84, rfl⟩
abbrev main_call1_call0_c : Ref sig .tc := ⟨.hbm, 85, rfl⟩
abbrev main_call1_call0_v1 : Ref sig .tc := ⟨.hbm, 86, rfl⟩
abbrev main_call1_call0_v2 : Ref sig .tc := ⟨.hbm, 87, rfl⟩
abbrev main_call1_call0_v3 : Ref sig .tc := ⟨.hbm, 88, rfl⟩
abbrev main_call1_call0_v4 : Ref sig .tc := ⟨.hbm, 89, rfl⟩
abbrev main_call1_call0_v5 : Ref sig .tc := ⟨.hbm, 90, rfl⟩
abbrev main_call1_call0_v6 : Ref sig .tc := ⟨.hbm, 91, rfl⟩
abbrev main_call1_call0_c_0 : Ref sig .tc := ⟨.hbm, 92, rfl⟩
abbrev main_call1_call0_v7 : Ref sig .tc := ⟨.hbm, 93, rfl⟩
abbrev main_call1_call0_v8 : Ref sig .tc := ⟨.hbm, 94, rfl⟩
abbrev main_call1_call0_c_1 : Ref sig .tc := ⟨.hbm, 95, rfl⟩
abbrev main_call1_call0_v9 : Ref sig .tc := ⟨.hbm, 96, rfl⟩
abbrev main_call1_call0_v10 : Ref sig .tc := ⟨.hbm, 97, rfl⟩
abbrev main_call1_call0_v11 : Ref sig .tc := ⟨.hbm, 98, rfl⟩
abbrev main_call1_call0_v12 : Ref sig .tc := ⟨.hbm, 99, rfl⟩
abbrev main_call1_call0_v13 : Ref sig .tc := ⟨.hbm, 100, rfl⟩
abbrev main_call1_call0_c_2 : Ref sig .tc := ⟨.hbm, 101, rfl⟩
abbrev main_call1_call0_v14 : Ref sig .tc := ⟨.hbm, 102, rfl⟩
abbrev main_call1_call0_v15 : Ref sig .tc := ⟨.hbm, 103, rfl⟩
abbrev main_call1_call0_c_3 : Ref sig .tc := ⟨.hbm, 104, rfl⟩
abbrev main_call1_call0_v16 : Ref sig .tc := ⟨.hbm, 105, rfl⟩
abbrev main_call1_call0_v17 : Ref sig .tc := ⟨.hbm, 106, rfl⟩
abbrev main_call1_call0_v18 : Ref sig .tc := ⟨.hbm, 107, rfl⟩
abbrev main_call1_call0_v19 : Ref sig .tc := ⟨.hbm, 108, rfl⟩
abbrev main_call1_call0_v20 : Ref sig .tc := ⟨.hbm, 109, rfl⟩
abbrev main_call1_call0_c_4 : Ref sig .tc := ⟨.hbm, 110, rfl⟩
abbrev main_call1_call0_v21 : Ref sig .tc := ⟨.hbm, 111, rfl⟩
abbrev main_call1_call0_v22 : Ref sig .tc := ⟨.hbm, 112, rfl⟩
abbrev main_call1_call0_c_5 : Ref sig .tc := ⟨.hbm, 113, rfl⟩
abbrev main_call1_call0_v23 : Ref sig .tc := ⟨.hbm, 114, rfl⟩
abbrev main_call1_call0_v24 : Ref sig .tc := ⟨.hbm, 115, rfl⟩
abbrev main_call1_call0_v25 : Ref sig .tc := ⟨.hbm, 116, rfl⟩
abbrev main_call1_call0_v26 : Ref sig .tc := ⟨.hbm, 117, rfl⟩
abbrev main_call1_call0_v27 : Ref sig .tc := ⟨.hbm, 118, rfl⟩
abbrev main_call1_call0_c_6 : Ref sig .tc := ⟨.hbm, 119, rfl⟩
abbrev main_call1_call0_v28 : Ref sig .tc := ⟨.hbm, 120, rfl⟩
abbrev main_call1_call0_v29 : Ref sig .tc := ⟨.hbm, 121, rfl⟩
abbrev main_call1_call0_c_7 : Ref sig .tc := ⟨.hbm, 122, rfl⟩
abbrev main_call1_call0_v30 : Ref sig .tc := ⟨.hbm, 123, rfl⟩
abbrev main_call1_call0_v31 : Ref sig .tc := ⟨.hbm, 124, rfl⟩
abbrev main_call1_call0_v32 : Ref sig .tc := ⟨.hbm, 125, rfl⟩
abbrev main_call1_call0_v33 : Ref sig .tc := ⟨.hbm, 126, rfl⟩
abbrev main_call1_call0_v34 : Ref sig .tc := ⟨.hbm, 127, rfl⟩
abbrev main_call1_call0_v35 : Ref sig .tc := ⟨.hbm, 128, rfl⟩
abbrev main_call1_call0_v36 : Ref sig .tc := ⟨.hbm, 129, rfl⟩
abbrev main_call1_call0_v37 : Ref sig .tc := ⟨.hbm, 130, rfl⟩
abbrev main_call1_call0_c_8 : Ref sig .tc := ⟨.hbm, 131, rfl⟩
abbrev main_call1_call0_v38 : Ref sig .tc := ⟨.hbm, 132, rfl⟩
abbrev main_call1_call0_v39 : Ref sig .tc := ⟨.hbm, 133, rfl⟩
abbrev main_call1_call0_v40 : Ref sig .tc := ⟨.hbm, 134, rfl⟩
abbrev main_call1_call0_c_9 : Ref sig .tc := ⟨.hbm, 135, rfl⟩
abbrev main_call1_call0_v41 : Ref sig .tc := ⟨.hbm, 136, rfl⟩
abbrev main_call1_call0_v42 : Ref sig .tc := ⟨.hbm, 137, rfl⟩
abbrev main_call1_call0_c_10 : Ref sig .tc := ⟨.hbm, 138, rfl⟩
abbrev main_call1_call0_v43 : Ref sig .tc := ⟨.hbm, 139, rfl⟩
abbrev main_call1_call0_v44 : Ref sig .tc := ⟨.hbm, 140, rfl⟩
abbrev main_call1_call0_v45 : Ref sig .tc := ⟨.hbm, 141, rfl⟩
abbrev main_call1_call0_v46 : Ref sig .tc := ⟨.hbm, 142, rfl⟩
abbrev main_call1_call0_v47 : Ref sig .tc := ⟨.hbm, 143, rfl⟩
abbrev main_call1_call0_c_11 : Ref sig .tc := ⟨.hbm, 144, rfl⟩
abbrev main_call1_call0_v48 : Ref sig .tc := ⟨.hbm, 145, rfl⟩
abbrev main_call1_call0_v49 : Ref sig .tc := ⟨.hbm, 146, rfl⟩
abbrev main_call1_call0_c_12 : Ref sig .tc := ⟨.hbm, 147, rfl⟩
abbrev main_call1_call0_v50 : Ref sig .tc := ⟨.hbm, 148, rfl⟩
abbrev main_call1_call0_v51 : Ref sig .tc := ⟨.hbm, 149, rfl⟩
abbrev main_call1_call0_v52 : Ref sig .tc := ⟨.hbm, 150, rfl⟩
abbrev main_call1_call0_v53 : Ref sig .tc := ⟨.hbm, 151, rfl⟩
abbrev main_call1_call0_v54 : Ref sig .tc := ⟨.hbm, 152, rfl⟩
abbrev main_call1_call0_c_13 : Ref sig .tc := ⟨.hbm, 153, rfl⟩
abbrev main_call1_call0_v55 : Ref sig .tc := ⟨.hbm, 154, rfl⟩
abbrev main_call1_call0_v56 : Ref sig .tc := ⟨.hbm, 155, rfl⟩
abbrev main_call1_call0_c_14 : Ref sig .tc := ⟨.hbm, 156, rfl⟩
abbrev main_call1_call0_v57 : Ref sig .tc := ⟨.hbm, 157, rfl⟩
abbrev main_call1_call0_v58 : Ref sig .tc := ⟨.hbm, 158, rfl⟩
abbrev main_call1_call0_v59 : Ref sig .tc := ⟨.hbm, 159, rfl⟩
abbrev main_call1_call0_v60 : Ref sig .tc := ⟨.hbm, 160, rfl⟩
abbrev main_call1_call0_v61 : Ref sig .tc := ⟨.hbm, 161, rfl⟩
abbrev main_call1_call0_c_15 : Ref sig .tc := ⟨.hbm, 162, rfl⟩
abbrev main_call1_call0_v62 : Ref sig .tc := ⟨.hbm, 163, rfl⟩
abbrev main_call1_call0_v63 : Ref sig .tc := ⟨.hbm, 164, rfl⟩
abbrev main_call1_call0_c_16 : Ref sig .tc := ⟨.hbm, 165, rfl⟩
abbrev main_call1_call0_v64 : Ref sig .tc := ⟨.hbm, 166, rfl⟩
abbrev main_call1_call0_v65 : Ref sig .tc := ⟨.hbm, 167, rfl⟩
abbrev main_call1_call0_v66 : Ref sig .tc := ⟨.hbm, 168, rfl⟩
abbrev main_call1_call0_v67 : Ref sig .tc := ⟨.hbm, 169, rfl⟩
abbrev main_call1_call0_v68 : Ref sig .tc := ⟨.hbm, 170, rfl⟩
abbrev main_call1_call0_v69 : Ref sig .tc := ⟨.hbm, 171, rfl⟩
abbrev main_call1_call0_v70 : Ref sig .tc := ⟨.hbm, 172, rfl⟩
abbrev main_call1_call0_v71 : Ref sig .tc := ⟨.hbm, 173, rfl⟩
abbrev main_call1_call0_c_17 : Ref sig .tc := ⟨.hbm, 174, rfl⟩
abbrev main_call1_call0_v72 : Ref sig .tc := ⟨.hbm, 175, rfl⟩
abbrev main_call1_call0_v73 : Ref sig .tc := ⟨.hbm, 176, rfl⟩
abbrev main_call1_call0_v74 : Ref sig .tc := ⟨.hbm, 177, rfl⟩
abbrev main_call1_call0_c_18 : Ref sig .tc := ⟨.hbm, 178, rfl⟩
abbrev main_call1_call0_v75 : Ref sig .tc := ⟨.hbm, 179, rfl⟩
abbrev main_call1_call0_v76 : Ref sig .tc := ⟨.hbm, 180, rfl⟩
abbrev main_call1_call0_c_19 : Ref sig .tc := ⟨.hbm, 181, rfl⟩
abbrev main_call1_call0_v77 : Ref sig .tc := ⟨.hbm, 182, rfl⟩
abbrev main_call1_call0_v78 : Ref sig .tc := ⟨.hbm, 183, rfl⟩
abbrev main_call1_call0_v79 : Ref sig .tc := ⟨.hbm, 184, rfl⟩
abbrev main_call1_call0_v80 : Ref sig .tc := ⟨.hbm, 185, rfl⟩
abbrev main_call1_call0_v81 : Ref sig .tc := ⟨.hbm, 186, rfl⟩
abbrev main_call1_call0_c_20 : Ref sig .tc := ⟨.hbm, 187, rfl⟩
abbrev main_call1_call0_v82 : Ref sig .tc := ⟨.hbm, 188, rfl⟩
abbrev main_call1_call0_v83 : Ref sig .tc := ⟨.hbm, 189, rfl⟩
abbrev main_call1_call0_c_21 : Ref sig .tc := ⟨.hbm, 190, rfl⟩
abbrev main_call1_call0_v84 : Ref sig .tc := ⟨.hbm, 191, rfl⟩
abbrev main_call1_call0_v85 : Ref sig .tc := ⟨.hbm, 192, rfl⟩
abbrev main_call1_call0_v86 : Ref sig .tc := ⟨.hbm, 193, rfl⟩
abbrev main_call1_call0_v87 : Ref sig .tc := ⟨.hbm, 194, rfl⟩
abbrev main_call1_call0_v88 : Ref sig .tc := ⟨.hbm, 195, rfl⟩
abbrev main_call1_call0_c_22 : Ref sig .tc := ⟨.hbm, 196, rfl⟩
abbrev main_call1_call0_v89 : Ref sig .tc := ⟨.hbm, 197, rfl⟩
abbrev main_call1_call0_v90 : Ref sig .tc := ⟨.hbm, 198, rfl⟩
abbrev main_call1_call0_c_23 : Ref sig .tc := ⟨.hbm, 199, rfl⟩
abbrev main_call1_call0_v91 : Ref sig .tc := ⟨.hbm, 200, rfl⟩
abbrev main_call1_call0_v92 : Ref sig .tc := ⟨.hbm, 201, rfl⟩
abbrev main_call1_call0_v93 : Ref sig .tc := ⟨.hbm, 202, rfl⟩
abbrev main_call1_call0_v94 : Ref sig .tc := ⟨.hbm, 203, rfl⟩
abbrev main_call1_call0_v95 : Ref sig .tc := ⟨.hbm, 204, rfl⟩
abbrev main_call1_call0_c_24 : Ref sig .tc := ⟨.hbm, 205, rfl⟩
abbrev main_call1_call0_v96 : Ref sig .tc := ⟨.hbm, 206, rfl⟩
abbrev main_call1_call0_v97 : Ref sig .tc := ⟨.hbm, 207, rfl⟩
abbrev main_call1_call0_c_25 : Ref sig .tc := ⟨.hbm, 208, rfl⟩
abbrev main_call1_call0_v98 : Ref sig .tc := ⟨.hbm, 209, rfl⟩
abbrev main_call1_call0_v99 : Ref sig .tc := ⟨.hbm, 210, rfl⟩
abbrev main_call1_call0_v100 : Ref sig .tc := ⟨.hbm, 211, rfl⟩
abbrev main_call1_call0_v101 : Ref sig .tc := ⟨.hbm, 212, rfl⟩
abbrev main_call1_call0_v102 : Ref sig .tc := ⟨.hbm, 213, rfl⟩
abbrev main_call1_call0_v103 : Ref sig .tc := ⟨.hbm, 214, rfl⟩
abbrev main_call1_call0_v104 : Ref sig .tc := ⟨.hbm, 215, rfl⟩
abbrev main_call1_call0_v105 : Ref sig .tc := ⟨.hbm, 216, rfl⟩
abbrev main_call1_call0_c_26 : Ref sig .tc := ⟨.hbm, 217, rfl⟩
abbrev main_call1_call0_v106 : Ref sig .tc := ⟨.hbm, 218, rfl⟩
abbrev main_call1_call0_v107 : Ref sig .tc := ⟨.hbm, 219, rfl⟩
abbrev main_call1_call0_v108 : Ref sig .tc := ⟨.hbm, 220, rfl⟩
abbrev main_call1_call0_c_27 : Ref sig .tc := ⟨.hbm, 221, rfl⟩
abbrev main_call1_call0_v109 : Ref sig .tc := ⟨.hbm, 222, rfl⟩
abbrev main_call1_call0_v110 : Ref sig .tc := ⟨.hbm, 223, rfl⟩
abbrev main_call1_call0_c_28 : Ref sig .tc := ⟨.hbm, 224, rfl⟩
abbrev main_call1_call0_v111 : Ref sig .tc := ⟨.hbm, 225, rfl⟩
abbrev main_call1_call0_v112 : Ref sig .tc := ⟨.hbm, 226, rfl⟩
abbrev main_call1_call0_v113 : Ref sig .tc := ⟨.hbm, 227, rfl⟩
abbrev main_call1_call0_v114 : Ref sig .tc := ⟨.hbm, 228, rfl⟩
abbrev main_call1_call0_v115 : Ref sig .tc := ⟨.hbm, 229, rfl⟩
abbrev main_call1_call0_c_29 : Ref sig .tc := ⟨.hbm, 230, rfl⟩
abbrev main_call1_call0_v116 : Ref sig .tc := ⟨.hbm, 231, rfl⟩
abbrev main_call1_call0_v117 : Ref sig .tc := ⟨.hbm, 232, rfl⟩
abbrev main_call1_call0_c_30 : Ref sig .tc := ⟨.hbm, 233, rfl⟩
abbrev main_call1_call0_v118 : Ref sig .tc := ⟨.hbm, 234, rfl⟩
abbrev main_call1_call0_v119 : Ref sig .tc := ⟨.hbm, 235, rfl⟩
abbrev main_call1_call0_v120 : Ref sig .tc := ⟨.hbm, 236, rfl⟩
abbrev main_call1_call0_v121 : Ref sig .tc := ⟨.hbm, 237, rfl⟩
abbrev main_call1_call0_v122 : Ref sig .tc := ⟨.hbm, 238, rfl⟩
abbrev main_call1_call0_c_31 : Ref sig .tc := ⟨.hbm, 239, rfl⟩
abbrev main_call1_call0_v123 : Ref sig .tc := ⟨.hbm, 240, rfl⟩
abbrev main_call1_call0_v124 : Ref sig .tc := ⟨.hbm, 241, rfl⟩
abbrev main_call1_call0_c_32 : Ref sig .tc := ⟨.hbm, 242, rfl⟩
abbrev main_call1_call0_v125 : Ref sig .tc := ⟨.hbm, 243, rfl⟩
abbrev main_call1_call0_v126 : Ref sig .tc := ⟨.hbm, 244, rfl⟩
abbrev main_call1_call0_v127 : Ref sig .tc := ⟨.hbm, 245, rfl⟩
abbrev main_call1_call0_v128 : Ref sig .tc := ⟨.hbm, 246, rfl⟩
abbrev main_call1_call0_v129 : Ref sig .tc := ⟨.hbm, 247, rfl⟩
abbrev main_call1_call0_c_33 : Ref sig .tc := ⟨.hbm, 248, rfl⟩
abbrev main_call1_call0_v130 : Ref sig .tc := ⟨.hbm, 249, rfl⟩
abbrev main_call1_call0_v131 : Ref sig .tc := ⟨.hbm, 250, rfl⟩
abbrev main_call1_call0_c_34 : Ref sig .tc := ⟨.hbm, 251, rfl⟩
abbrev main_call1_call0_v132 : Ref sig .tc := ⟨.hbm, 252, rfl⟩
abbrev main_call1_call0_v133 : Ref sig .tc := ⟨.hbm, 253, rfl⟩
abbrev main_call1_call0_v134 : Ref sig .tc := ⟨.hbm, 254, rfl⟩
abbrev main_call1_call0_v135 : Ref sig .tc := ⟨.hbm, 255, rfl⟩
abbrev main_call1_call0_v136 : Ref sig .tc := ⟨.hbm, 256, rfl⟩
abbrev main_call1_call0_v137 : Ref sig .tc := ⟨.hbm, 257, rfl⟩
abbrev main_call1_call0_v138 : Ref sig .tc := ⟨.hbm, 258, rfl⟩
abbrev main_call1_call0_v139 : Ref sig .tc := ⟨.hbm, 259, rfl⟩
abbrev main_call1_call0_c_35 : Ref sig .tc := ⟨.hbm, 260, rfl⟩
abbrev main_call1_call0_v140 : Ref sig .tc := ⟨.hbm, 261, rfl⟩
abbrev main_call1_call0_v141 : Ref sig .tc := ⟨.hbm, 262, rfl⟩
abbrev main_call1_call0_v142 : Ref sig .tc := ⟨.hbm, 263, rfl⟩
abbrev main_call1_call0_c_36 : Ref sig .tc := ⟨.hbm, 264, rfl⟩
abbrev main_call1_call0_v143 : Ref sig .tc := ⟨.hbm, 265, rfl⟩
abbrev main_call1_call0_v144 : Ref sig .tc := ⟨.hbm, 266, rfl⟩
abbrev main_call1_call0_c_37 : Ref sig .tc := ⟨.hbm, 267, rfl⟩
abbrev main_call1_call0_v145 : Ref sig .tc := ⟨.hbm, 268, rfl⟩
abbrev main_call1_call0_v146 : Ref sig .tc := ⟨.hbm, 269, rfl⟩
abbrev main_call1_call0_v147 : Ref sig .tc := ⟨.hbm, 270, rfl⟩
abbrev main_call1_call0_v148 : Ref sig .tc := ⟨.hbm, 271, rfl⟩
abbrev main_call1_call0_v149 : Ref sig .tc := ⟨.hbm, 272, rfl⟩
abbrev main_call1_call0_c_38 : Ref sig .tc := ⟨.hbm, 273, rfl⟩
abbrev main_call1_call0_v150 : Ref sig .tc := ⟨.hbm, 274, rfl⟩
abbrev main_call1_call0_v151 : Ref sig .tc := ⟨.hbm, 275, rfl⟩
abbrev main_call1_call0_c_39 : Ref sig .tc := ⟨.hbm, 276, rfl⟩
abbrev main_call1_call0_v152 : Ref sig .tc := ⟨.hbm, 277, rfl⟩
abbrev main_call1_call0_v153 : Ref sig .tc := ⟨.hbm, 278, rfl⟩
abbrev main_call1_call0_v154 : Ref sig .tc := ⟨.hbm, 279, rfl⟩
abbrev main_call1_call0_v155 : Ref sig .tc := ⟨.hbm, 280, rfl⟩
abbrev main_call1_call0_v156 : Ref sig .tc := ⟨.hbm, 281, rfl⟩
abbrev main_call1_call0_c_40 : Ref sig .tc := ⟨.hbm, 282, rfl⟩
abbrev main_call1_call0_v157 : Ref sig .tc := ⟨.hbm, 283, rfl⟩
abbrev main_call1_call0_v158 : Ref sig .tc := ⟨.hbm, 284, rfl⟩
abbrev main_call1_call0_c_41 : Ref sig .tc := ⟨.hbm, 285, rfl⟩
abbrev main_call1_call0_v159 : Ref sig .tc := ⟨.hbm, 286, rfl⟩
abbrev main_call1_call0_v160 : Ref sig .tc := ⟨.hbm, 287, rfl⟩
abbrev main_call1_call0_v161 : Ref sig .tc := ⟨.hbm, 288, rfl⟩
abbrev main_call1_call0_v162 : Ref sig .tc := ⟨.hbm, 289, rfl⟩
abbrev main_call1_call0_v163 : Ref sig .tc := ⟨.hbm, 290, rfl⟩
abbrev main_call1_call0_c_42 : Ref sig .tc := ⟨.hbm, 291, rfl⟩
abbrev main_call1_call0_v164 : Ref sig .tc := ⟨.hbm, 292, rfl⟩
abbrev main_call1_call0_v165 : Ref sig .tc := ⟨.hbm, 293, rfl⟩
abbrev main_call1_call0_c_43 : Ref sig .tc := ⟨.hbm, 294, rfl⟩
abbrev main_call1_call0_v166 : Ref sig .tc := ⟨.hbm, 295, rfl⟩
abbrev main_call1_call0_v167 : Ref sig .tc := ⟨.hbm, 296, rfl⟩
abbrev main_call1_call0_v168 : Ref sig .tc := ⟨.hbm, 297, rfl⟩
abbrev main_call1_call0_v169 : Ref sig .tc := ⟨.hbm, 298, rfl⟩
abbrev main_call1_call0_v170 : Ref sig .tc := ⟨.hbm, 299, rfl⟩
abbrev main_call1_v23_0 : Ref sig .tc := ⟨.hbm, 300, rfl⟩
abbrev main_call1_call0_v172 : Ref sig .tc := ⟨.hbm, 301, rfl⟩
abbrev main_call1_call0_v173 : Ref sig .tc := ⟨.hbm, 302, rfl⟩
abbrev main_call1_call0_c_44 : Ref sig .tc := ⟨.hbm, 303, rfl⟩
abbrev main_call1_call0_v174 : Ref sig .tc := ⟨.hbm, 304, rfl⟩
abbrev main_call1_v23_1 : Ref sig .tc := ⟨.hbm, 305, rfl⟩
abbrev main_call1_v24 : Ref sig .tc := ⟨.hbm, 306, rfl⟩
abbrev main_call1_c_3 : Ref sig .tc := ⟨.hbm, 307, rfl⟩
abbrev main_call1_v25 : Ref sig .tc := ⟨.hbm, 308, rfl⟩
abbrev main_call1_v26 : Ref sig .tc := ⟨.hbm, 309, rfl⟩
abbrev main_call1_c_4 : Ref sig .tc := ⟨.hbm, 310, rfl⟩
abbrev main_call1_v27 : Ref sig .tc := ⟨.hbm, 311, rfl⟩
abbrev main_call1_v28 : Ref sig .tc := ⟨.hbm, 312, rfl⟩
abbrev main_call1_v29 : Ref sig .tc := ⟨.hbm, 313, rfl⟩
abbrev main_call1_cst : Ref sig .tc := ⟨.hbm, 314, rfl⟩
abbrev main_call1_v30 : Ref sig .tc := ⟨.hbm, 315, rfl⟩
abbrev main_call1_v31 : Ref sig .tc := ⟨.hbm, 316, rfl⟩
abbrev main_call1_v32 : Ref sig .tc := ⟨.hbm, 317, rfl⟩
abbrev main_call1_v33 : Ref sig .tc := ⟨.hbm, 318, rfl⟩
abbrev main_call1_v34 : Ref sig .tc := ⟨.hbm, 319, rfl⟩
abbrev main_call1_v35 : Ref sig .tc := ⟨.hbm, 320, rfl⟩
abbrev main_call1_v36 : Ref sig .tc := ⟨.hbm, 321, rfl⟩
abbrev main_call1_v37 : Ref sig .tc := ⟨.hbm, 322, rfl⟩
abbrev main_v41 : Ref sig .tc := ⟨.hbm, 323, rfl⟩
abbrev main_v42 : Ref sig .tc := ⟨.hbm, 324, rfl⟩
abbrev main_v43 : Ref sig .tc := ⟨.hbm, 325, rfl⟩
abbrev main_v44 : Ref sig .tc := ⟨.hbm, 326, rfl⟩
abbrev main_v45 : Ref sig .tc := ⟨.hbm, 327, rfl⟩
abbrev main_v46 : Ref sig .tc := ⟨.hbm, 328, rfl⟩
abbrev main_v47 : Ref sig .tc := ⟨.hbm, 329, rfl⟩
abbrev main_v48 : Ref sig .tc := ⟨.hbm, 330, rfl⟩
abbrev main_call2_v0 : Ref sig .tc := ⟨.hbm, 331, rfl⟩
abbrev main_call2_cst : Ref sig .tc := ⟨.hbm, 332, rfl⟩
abbrev main_call2_c : Ref sig .tc := ⟨.hbm, 333, rfl⟩
abbrev main_call2_v1_0 : Ref sig .tc := ⟨.hbm, 334, rfl⟩
abbrev main_v49 : Ref sig .tc := ⟨.hbm, 335, rfl⟩
abbrev main_v50 : Ref sig .tc := ⟨.hbm, 336, rfl⟩
abbrev main_v51 : Ref sig .tc := ⟨.hbm, 337, rfl⟩
abbrev main_call3_c : Ref sig .tc := ⟨.hbm, 338, rfl⟩
abbrev main_call3_v0 : Ref sig .tc := ⟨.hbm, 339, rfl⟩
abbrev main_call3_v1 : Ref sig .tc := ⟨.hbm, 340, rfl⟩
abbrev main_call3_c_0 : Ref sig .tc := ⟨.hbm, 341, rfl⟩
abbrev main_call3_v2 : Ref sig .tc := ⟨.hbm, 342, rfl⟩
abbrev main_call3_v3 : Ref sig .tc := ⟨.hbm, 343, rfl⟩
abbrev main_call3_v4 : Ref sig .tc := ⟨.hbm, 344, rfl⟩
abbrev main_call3_c_1 : Ref sig .tc := ⟨.hbm, 345, rfl⟩
abbrev main_call3_c_2 : Ref sig .tc := ⟨.hbm, 346, rfl⟩
abbrev main_call3_v5 : Ref sig .tc := ⟨.hbm, 347, rfl⟩
abbrev main_call3_v6 : Ref sig .tc := ⟨.hbm, 348, rfl⟩
abbrev main_call3_v7 : Ref sig .tc := ⟨.hbm, 349, rfl⟩
abbrev main_call3_v8 : Ref sig .tc := ⟨.hbm, 350, rfl⟩
abbrev main_call3_v9 : Ref sig .tc := ⟨.hbm, 351, rfl⟩
abbrev main_call3_v10 : Ref sig .tc := ⟨.hbm, 352, rfl⟩
abbrev main_call3_c_3 : Ref sig .tc := ⟨.hbm, 353, rfl⟩
abbrev main_call3_v11 : Ref sig .tc := ⟨.hbm, 354, rfl⟩
abbrev main_call3_v12 : Ref sig .tc := ⟨.hbm, 355, rfl⟩
abbrev main_call3_v13 : Ref sig .tc := ⟨.hbm, 356, rfl⟩
abbrev main_call3_cst : Ref sig .tc := ⟨.hbm, 357, rfl⟩
abbrev main_call3_v14 : Ref sig .tc := ⟨.hbm, 358, rfl⟩
abbrev main_v52 : Ref sig .tc := ⟨.hbm, 359, rfl⟩
abbrev main_call4_c : Ref sig .tc := ⟨.hbm, 360, rfl⟩
abbrev main_call4_v0 : Ref sig .tc := ⟨.hbm, 361, rfl⟩
abbrev main_call4_v1 : Ref sig .tc := ⟨.hbm, 362, rfl⟩
abbrev main_call4_c_0 : Ref sig .tc := ⟨.hbm, 363, rfl⟩
abbrev main_call4_v2 : Ref sig .tc := ⟨.hbm, 364, rfl⟩
abbrev main_call4_v3 : Ref sig .tc := ⟨.hbm, 365, rfl⟩
abbrev main_call4_v4 : Ref sig .tc := ⟨.hbm, 366, rfl⟩
abbrev main_call4_v5 : Ref sig .tc := ⟨.hbm, 367, rfl⟩
abbrev main_call4_c_1 : Ref sig .tc := ⟨.hbm, 368, rfl⟩
abbrev main_call4_c_2 : Ref sig .tc := ⟨.hbm, 369, rfl⟩
abbrev main_call4_v6 : Ref sig .tc := ⟨.hbm, 370, rfl⟩
abbrev main_call4_v7 : Ref sig .tc := ⟨.hbm, 371, rfl⟩
abbrev main_call4_v8 : Ref sig .tc := ⟨.hbm, 372, rfl⟩
abbrev main_call4_v9 : Ref sig .tc := ⟨.hbm, 373, rfl⟩
abbrev main_call4_v10 : Ref sig .tc := ⟨.hbm, 374, rfl⟩
abbrev main_call4_v11 : Ref sig .tc := ⟨.hbm, 375, rfl⟩
abbrev main_call4_c_3 : Ref sig .tc := ⟨.hbm, 376, rfl⟩
abbrev main_call4_v12 : Ref sig .tc := ⟨.hbm, 377, rfl⟩
abbrev main_call4_v13 : Ref sig .tc := ⟨.hbm, 378, rfl⟩
abbrev main_call4_cst : Ref sig .tc := ⟨.hbm, 379, rfl⟩
abbrev main_call4_v14 : Ref sig .tc := ⟨.hbm, 380, rfl⟩
abbrev main_v53 : Ref sig .tc := ⟨.hbm, 381, rfl⟩
abbrev main_call5_c : Ref sig .tc := ⟨.hbm, 382, rfl⟩
abbrev main_call5_v0 : Ref sig .tc := ⟨.hbm, 383, rfl⟩
abbrev main_call5_v1 : Ref sig .tc := ⟨.hbm, 384, rfl⟩
abbrev main_call5_c_0 : Ref sig .tc := ⟨.hbm, 385, rfl⟩
abbrev main_call5_v2 : Ref sig .tc := ⟨.hbm, 386, rfl⟩
abbrev main_call5_v3 : Ref sig .tc := ⟨.hbm, 387, rfl⟩
abbrev main_call5_v4 : Ref sig .tc := ⟨.hbm, 388, rfl⟩
abbrev main_call5_v5 : Ref sig .tc := ⟨.hbm, 389, rfl⟩
abbrev main_call5_c_1 : Ref sig .tc := ⟨.hbm, 390, rfl⟩
abbrev main_call5_c_2 : Ref sig .tc := ⟨.hbm, 391, rfl⟩
abbrev main_call5_v6 : Ref sig .tc := ⟨.hbm, 392, rfl⟩
abbrev main_call5_v7 : Ref sig .tc := ⟨.hbm, 393, rfl⟩
abbrev main_call5_v8 : Ref sig .tc := ⟨.hbm, 394, rfl⟩
abbrev main_call5_v9 : Ref sig .tc := ⟨.hbm, 395, rfl⟩
abbrev main_call5_v10 : Ref sig .tc := ⟨.hbm, 396, rfl⟩
abbrev main_call5_v11 : Ref sig .tc := ⟨.hbm, 397, rfl⟩
abbrev main_call5_c_3 : Ref sig .tc := ⟨.hbm, 398, rfl⟩
abbrev main_call5_v12 : Ref sig .tc := ⟨.hbm, 399, rfl⟩
abbrev main_call5_v13 : Ref sig .tc := ⟨.hbm, 400, rfl⟩
abbrev main_call5_cst : Ref sig .tc := ⟨.hbm, 401, rfl⟩
abbrev main_call5_v14 : Ref sig .tc := ⟨.hbm, 402, rfl⟩
abbrev main_v54 : Ref sig .tc := ⟨.hbm, 403, rfl⟩
abbrev main_v55 : Ref sig .tc := ⟨.hbm, 404, rfl⟩
abbrev main_v56 : Ref sig .tc := ⟨.hbm, 405, rfl⟩
abbrev main_v57 : Ref sig .tc := ⟨.hbm, 406, rfl⟩

abbrev nD : Nat := 1
abbrev τ : Topo := Topo.v7x

variable {F : FTy → Type} [FloatOps F]
-- ==== Proof.RefOps.lean ====
module

public import proofs.«01_k».proof.Proof.Gen.ReferenceIdeal
public import Idealize.ShloMosaic.Lib.StableHlo.RunHlo
public import Idealize.ShloMosaic.Lib.StableHlo.RunRead
public import Idealize.ShloMosaic.PureOps.Ideal

@[expose] public section

noncomputable section

namespace Cert.ReferenceIdeal.ByHand

open Idealize.ShloMosaic Idealize.ShloMosaic.StableHlo Idealize.SL.Sem

variable {F : FTy → Type} [FloatOps F]

set_option maxRecDepth 20000 in
set_option maxHeartbeats 4000000 in
/-- The reference's operations in order, with the fact that @main runs them one after the other. -/
def line : {ops : List (HloOp τ sig (Elt F)) // ∀ d : Dev nD, IsSeq (main (F := F) d) ops} :=
  by
  constructor
  hlo_seq

end Cert.ReferenceIdeal.ByHand

end
-- ==== Proof.RefDraw.lean ====
/-
What the reference's uniform draw is: the key, the counter's two words at every index, the threefry mixing, and the
float made of the mixed words, written once over whole arrays.
-/
module

public import proofs.«01_k».proof.Proof.RefOps

@[expose] public section

noncomputable section

namespace Cert.ReferenceIdeal.ByHand

open Cert.ReferenceIdeal Cert.ReferenceIdeal.Gen Idealize.ShloMosaic Idealize.ShloMosaic.StableHlo

variable {F : FTy → Type} [FloatOps F]

/-- A word laid over the whole array of draws. -/
def rfill {w : ℕ} (x : IVec S_ w) : IVec S32768x64x32768 w := broadcastInDim S32768x64x32768 ![] bcast_S_S32768x64x32768 x

/-- The pair of words the mixing carries, at every index. -/
abbrev Words := IVec S32768x64x32768 32 × IVec S32768x64x32768 32

/-- One round of the mixing: add, rotate left by `l` (so right by `r`), exclusive or. -/
def rround (l r : BitVec 32) (p : Words) : Words :=
  (addi p.1 p.2,
   xori (addi p.1 p.2) (ori (Host.shli p.2 (rfill (constantI S_ 32 l))) (Host.shrui p.2 (rfill (constantI S_ 32 r)))))

/-- Key words `a` and `b` and the group's number `c` added after four rounds. -/
def rinject (a b : IVec S_ 32) (c : BitVec 32) (p : Words) : Words :=
  (addi p.1 (rfill a), addi (addi p.2 (rfill b)) (rfill (constantI S_ 32 c)))

/-- The four rounds of the odd groups. -/
def rodd (p : Words) : Words := rround 6#32 26#32 (rround 26#32 6#32 (rround 15#32 17#32 (rround 13#32 19#32 p)))

/-- The four rounds of the even groups. -/
def reven (p : Words) : Words := rround 24#32 8#32 (rround 16#32 16#32 (rround 29#32 3#32 (rround 17#32 15#32 p)))

/-- The third key word. -/
def rthird (k0 k1 : IVec S_ 32) : IVec S_ 32 := xori (xori k0 k1) (constantI S_ 32 466688986#32)

/-- The threefry mixing of twenty rounds under the key words `k0`, `k1`. -/
def rmix (k0 k1 : IVec S_ 32) (p : Words) : Words :=
  rinject (rthird k0 k1) k0 5#32 (rodd (rinject k1 (rthird k0 k1) 4#32 (reven (rinject k0 k1 3#32 (rodd
    (rinject (rthird k0 k1) k0 2#32 (reven (rinject k1 (rthird k0 k1) 1#32 (rodd
      (addi p.1 (rfill k0), addi p.2 (rfill k1)))))))))))

/-- The key's two words as one array, made of the seed 42. -/
def rkey : IVec S2 32 :=
  concatenate S2 0 [⟨S1, broadcastInDim S1 ![] bcast_S_S1 (Host.shrui (constantI S_ 32 42#32) (constantI S_ 32 32#32))⟩,
    ⟨S1, broadcastInDim S1 ![] bcast_S_S1 (andi (constantI S_ 32 42#32) (constantI S_ 32 4294967295#32))⟩]
    concatenates_S1_S1_S2_d0

/-- The key's high word. -/
def rkey0 : IVec S_ 32 := shapeCast S_ (extractStridedSlice S1 ![0] rkey slices_S2_S1_0) shapeCasts_S1_S_

/-- The key's low word. -/
def rkey1 : IVec S_ 32 := shapeCast S_ (extractStridedSlice S1 ![1] rkey slices_S2_S1_1) shapeCasts_S1_S_

/-- The counter of every index: its position in row-major order, as a word of 64 bits. -/
def rcount : IVec S32768x64x32768 64 :=
  addi (addi (muli (rfill (constantI S_ 64 2097152#64)) (iotaInDim S32768x64x32768 64 0))
    (muli (rfill (constantI S_ 64 32768#64)) (iotaInDim S32768x64x32768 64 1)))
    (muli (rfill (constantI S_ 64 1#64)) (iotaInDim S32768x64x32768 64 2))

/-- The counter's high and low words. -/
def rwords : Words :=
  (trunci 32 (Host.shrui rcount (rfill (constantI S_ 64 32#64))) natLt_32_64, trunci 32 rcount natLt_32_64)

/-- A float scalar laid over the whole array through an array of one element. -/
def rlaid (x : FVec F S1x1x1 .f32) : FVec F S32768x64x32768 .f32 :=
  broadcastInDim S32768x64x32768 ![0, 1, 2] bcast_S1x1x1_S32768x64x32768_0_1_2 x

/-- The lower end of the draw's range, zero. -/
def rlo : FVec F S1x1x1 .f32 := broadcastInDim S1x1x1 ![] bcast_S_S1x1x1 (constant S_ .f32 0x00000000#32)

/-- The upper end of the draw's range, one. -/
def rhi : FVec F S1x1x1 .f32 := broadcastInDim S1x1x1 ![] bcast_S_S1x1x1 (constant S_ .f32 0x3F800000#32)

/-- The fraction made of mixed words: their exclusive or's high 23 bits after the point of a float of [1, 2), less one. -/
def rfraction (p : Words) : FVec F S32768x64x32768 .f32 :=
  subf (bitcastToFloat .f32 (ori (Host.shrui (xori p.1 p.2) (rfill (constantI S_ 32 9#32)))
      (rfill (constantI S_ 32 1065353216#32))))
    (broadcastInDim S32768x64x32768 ![] bcast_S_S32768x64x32768 (constant S_ .f32 0x3F800000#32))

/-- The uniform draw: the fraction scaled to the range and kept at or above its lower end. -/
def runiform : FVec F S32768x64x32768 .f32 :=
  maximumf (rlaid rlo) (addf (mulf (rfraction (rmix rkey0 rkey1 rwords)) (rlaid (subf rhi rlo))) (rlaid rlo))

end Cert.ReferenceIdeal.ByHand

end
-- ==== Proof.RefSpec.lean ====
/-
What the reference computes: the normalised log-weights, the sampled indices, the gathered states and the new
weights, each written once as a function of the arguments.
-/
module

public import proofs.«01_k».proof.Proof.RefDraw

@[expose] public section

noncomputable section

namespace Cert.ReferenceIdeal.ByHand

open Cert.ReferenceIdeal Cert.ReferenceIdeal.Gen Idealize.ShloMosaic Idealize.ShloMosaic.TcCoe Idealize.ShloMosaic.StableHlo
open Idealize.SL.Sem

variable {F : FTy → Type} [FloatOps F]

/-- The logarithm of the number of particles. -/
def logCount : FVec F S_ .f32 := Host.log (constant S_ .f32 0x47000000#32)

/-- A scalar laid over the array of weights. -/
def wfill (x : FVec F S_ .f32) : FVec F S64x32768 .f32 := broadcastInDim S64x32768 ![] bcast_S_S64x32768 x

/-- The logarithm of a sum of two exponentials, as the host spells it. -/
def logAdd (a : FVec F S64x32768 .f32) (b : FVec F S_ .f32) : FVec F S64x32768 .f32 :=
  select (cmpf .une (subf a (wfill b)) (subf a (wfill b))) (addf a (wfill b))
    (addf (maximumf a (wfill b)) (Host.log1p (Host.exp (Host.negf (Host.absf (subf a (wfill b)))))))

/-- The soft mixture's log-weights. -/
def soft (w : FVec F S64x32768 .f32) : FVec F S64x32768 .f32 :=
  logAdd (addf w (wfill (Host.log (constant S_ .f32 0x3F333333#32))))
    (subf (Host.log (constant S_ .f32 0x3E99999A#32)) logCount)

/-- A row's value laid over a column. -/
def col (x : FVec F S64 .f32) : FVec F S64x1 .f32 := broadcastInDim S64x1 ![0] bcast_S64_S64x1_0 x

/-- A column's value laid over the rows. -/
def rowfill (x : FVec F S64x1 .f32) : FVec F S64x32768 .f32 :=
  broadcastInDim S64x32768 ![0, 1] bcast_S64x1_S64x32768_0_1 x

/-- Each row's largest value where that is finite, else zero. -/
def anchor (s : FVec F S64x32768 .f32) : FVec F S64x1 .f32 :=
  select (cmpf .olt (Host.absf (col (Host.reduce FloatOps.maximumf s (constant S_ .f32 0xFF800000#32) reducesTo_S64x32768_S64_d1 h_S_)))
      (broadcastInDim S64x1 ![] bcast_S_S64x1 (constant S_ .f32 0x7F800000#32)))
    (col (Host.reduce FloatOps.maximumf s (constant S_ .f32 0xFF800000#32) reducesTo_S64x32768_S64_d1 h_S_))
    (broadcastInDim S64x1 ![] bcast_S_S64x1 (constant S_ .f32 0x00000000#32))

/-- The log-weights less their row's log-sum-exp taken around `a`. -/
def normalised (s : FVec F S64x32768 .f32) (a : FVec F S64x1 .f32) : FVec F S64x32768 .f32 :=
  subf s (rowfill (addf (Host.log (col (Host.reduceAdd (Host.exp (subf s (rowfill a))) (constant S_ .f32 0x00000000#32)
    reducesTo_S64x32768_S64_d1 h_S_))) a))

/-- The normalised log-weights of the soft mixture. -/
def used (w : FVec F S64x32768 .f32) : FVec F S64x32768 .f32 := normalised (soft w) (anchor (soft w))

/-- The log-weights perturbed by the Gumbel noise of the draws `u`. -/
def perturbed (u : FVec F S32768x64x32768 .f32) (l : FVec F S64x32768 .f32) : FVec F S32768x64x32768 .f32 :=
  addf (Host.negf (Host.log (Host.negf (Host.log u))))
    (broadcastInDim S32768x64x32768 ![0, 1, 2] bcast_S1x64x32768_S32768x64x32768_0_1_2
      (broadcastInDim S1x64x32768 ![1, 2] bcast_S64x32768_S1x64x32768_1_2 l))

/-- For each sample and row, the index of the largest perturbed log-weight. -/
def largest (x : FVec F S32768x64x32768 .f32) : IVec S32768x64 32 := fun j =>
  (Host.argReduce reducer_argmax_f32_i32 x (iotaInDim S32768x64x32768 32 2) (constant S_ .f32 0xFF800000#32)
    (constantI S_ 32 0#32) reducesTo_S32768x64x32768_S32768x64_d2 h_S_ j).2

/-- The same, as one function of the position. -/
theorem largest_eq (x : FVec F S32768x64x32768 .f32) : largest x = fun j =>
    (Host.argReduce reducer_argmax_f32_i32 x (iotaInDim S32768x64x32768 32 2) (constant S_ .f32 0xFF800000#32)
      (constantI S_ 32 0#32) reducesTo_S32768x64x32768_S32768x64_d2 h_S_ j).2 := rfl

/-- The indices sampled by the draws `u`, a row of samples for each row of weights. -/
def sampledOf (u : FVec F S32768x64x32768 .f32) (l : FVec F S64x32768 .f32) : IVec S64x32768 32 :=
  transpose S64x32768 [1, 0] (largest (perturbed u l)) transposes_S32768x64_S64x32768_1_0

/-- The indices the reference samples. -/
def sampled (l : FVec F S64x32768 .f32) : IVec S64x32768 32 := sampledOf runiform l

/-- An index below zero counted from the end, and one axis more. -/
def wrapped (k : IVec S64x32768 32) : IVec S64x32768x1 32 :=
  shapeCast S64x32768x1 (select (cmpi .slt k (broadcastInDim S64x32768 ![] bcast_S_S64x32768 (constantI S_ 32 0#32)))
    (addi k (broadcastInDim S64x32768 ![] bcast_S_S64x32768 (constantI S_ 32 32768#32))) k) shapeCasts_S64x32768_S64x32768x1

/-- The same, of indices that have the axis already. -/
def wrapped' (k : IVec S64x32768x1 32) : IVec S64x32768x1 32 :=
  select (cmpi .slt k (broadcastInDim S64x32768x1 ![] bcast_S_S64x32768x1 (constantI S_ 32 0#32)))
    (addi k (broadcastInDim S64x32768x1 ![] bcast_S_S64x32768x1 (constantI S_ 32 32768#32))) k

/-- Whether an index lies in the row. -/
def within (k : IVec S64x32768x1 32) : IVec S64x32768 1 :=
  Host.reduce IntOp.andi (andi (cmpi .sge k (broadcastInDim S64x32768x1 ![] bcast_S_S64x32768x1 (constantI S_ 32 0#32)))
    (cmpi .sle k (broadcastInDim S64x32768x1 ![0, 1, 2] bcast_S1x1x1_S64x32768x1_0_1_2
      (broadcastInDim S1x1x1 ![2] bcast_S1_S1x1x1_2 (constantI S1 32 32767#32))))) (constantI S_ 1 1#1)
    reducesTo_S64x32768x1_S64x32768_d2 h_S_

/-- A row's values at the indices `k`. -/
def taken (x : FVec F S64x32768 .f32) (k : IVec S64x32768 32) : FVec F S64x32768 .f32 :=
  select (within (wrapped k)) (Host.gather gather_S64x32768_S64x32768x1_S64x32768_n_1_0_0_1_2_11 x (wrapped k))
    (broadcastInDim S64x32768 ![] bcast_S_S64x32768 (constant S_ .f32 0x7FC00000#32))

/-- The new states: each row's states at the indices `k`. -/
def newState (x : FVec F S64x32768x16 .f32) (k : IVec S64x32768 32) : FVec F S64x32768x16 .f32 :=
  select (broadcastInDim S64x32768x16 ![0, 1] bcast_S64x32768_S64x32768x16_0_1
      (within (wrapped' (broadcastInDim S64x32768x1 ![0, 1] bcast_S64x32768_S64x32768x1_0_1 k))))
    (Host.gather gather_S64x32768x16_S64x32768x1_S64x32768x16_2_1_0_0_1_2_1116 x
      (wrapped' (broadcastInDim S64x32768x1 ![0, 1] bcast_S64x32768_S64x32768x1_0_1 k)))
    (broadcastInDim S64x32768x16 ![] bcast_S_S64x32768x16 (constant S_ .f32 0x7FC00000#32))

/-- The new weights: the weights at the indices `k`, less the normalised weights there, less the count's logarithm. -/
def newWeight (w l : FVec F S64x32768 .f32) (k : IVec S64x32768 32) : FVec F S64x32768 .f32 :=
  subf (subf (taken w k) (taken l k)) (wfill logCount)

end Cert.ReferenceIdeal.ByHand

end
-- ==== Proof.RefRun.lean ====
/-
The reference's run: what each result holds after its operations, and that the arguments stay.
-/
module

public import proofs.«01_k».proof.Proof.RefSpec
public import Idealize.ShloMosaic.Lib.Claim
public import Idealize.ShloMosaic.Lib.Pipeline.Frame

@[expose] public section

noncomputable section

namespace Cert.ReferenceIdeal.ByHand

open Cert.ReferenceIdeal Cert.ReferenceIdeal.Gen Idealize.ShloMosaic Idealize.ShloMosaic.TcCoe Idealize.ShloMosaic.StableHlo
open Idealize.SL.Sem

variable {F : FTy → Type} [FloatOps F]

/-- The operations up to the uniform draw. -/
def first : List (HloOp τ sig (Elt F)) := line.1.take 322

/-- The operations after the uniform draw. -/
def rest : List (HloOp τ sig (Elt F)) := line.1.drop 322

/-- The reference's operations are those up to the draw and those after it. -/
theorem after_line (V : Valuation τ sig (Elt F)) : after line.1 V = after rest (after first V) := by
  rw [← after_append, first, rest, List.take_append_drop]

set_option maxRecDepth 100000 in
set_option maxHeartbeats 4000000 in
/-- The first operations leave the uniform draw in its buffer. -/
theorem first_uniform (V : Valuation τ sig (Elt F)) :
    after first V (Proc.devRef .tc main_v41) = (runiform : FVec F S32768x64x32768 .f32) := by
  unfold first line
  dsimp only [List.take_succ_cons, List.take_zero]
  after_reads_simp []
  simp -implicitDefEqProofs only [TRef.toBuf, TRef.ofBuf, cast_cast, cast_eq]
  dsimp only [runiform, rfraction, rhi, rlo, rlaid, rmix, rthird, rodd, reven, rround, rinject, rfill]
  rfl

/-- The operations up to the soft mixture. -/
def partSoft : List (HloOp τ sig (Elt F)) := line.1.take 22

/-- The operations from there up to each row's anchor. -/
def partAnchor : List (HloOp τ sig (Elt F)) := (line.1.drop 22).take 11

/-- The operations from there up to the normalised log-weights. -/
def partUsed : List (HloOp τ sig (Elt F)) := (line.1.drop 33).take 10

/-- The operations from there up to the draw. -/
def partDraw : List (HloOp τ sig (Elt F)) := (line.1.drop 43).take 279

set_option maxRecDepth 100000 in
set_option maxHeartbeats 4000000 in
/-- The first operations in four parts. -/
theorem first_eq : (first : List (HloOp τ sig (Elt F))) = partSoft ++ (partAnchor ++ (partUsed ++ partDraw)) := by
  unfold first partSoft partAnchor partUsed partDraw line
  rfl

set_option maxRecDepth 100000 in
set_option maxHeartbeats 4000000 in
/-- The first part leaves the soft mixture's log-weights. -/
theorem partSoft_soft (V : Valuation τ sig (Elt F)) :
    after partSoft V (Proc.devRef .tc main_v18) = soft (V (Proc.devRef .tc main_arg1)) := by
  unfold partSoft line
  dsimp only [List.take_succ_cons, List.take_zero, List.drop_succ_cons, List.drop_zero]
  after_reads_simp []
  dsimp only [soft, logAdd, wfill, logCount]

set_option maxRecDepth 100000 in
set_option maxHeartbeats 4000000 in
/-- The second part leaves each row's anchor. -/
theorem partAnchor_anchor (V : Valuation τ sig (Elt F)) :
    after partAnchor V (Proc.devRef .tc main_v24) = anchor (V (Proc.devRef .tc main_v18)) := by
  unfold partAnchor line
  dsimp only [List.take_succ_cons, List.take_zero, List.drop_succ_cons, List.drop_zero]
  after_reads_simp []
  simp -implicitDefEqProofs only [TRef.toBuf, TRef.ofBuf, cast_cast, cast_eq]
  simp -implicitDefEqProofs only [anchor, col, id]

set_option maxRecDepth 100000 in
set_option maxHeartbeats 4000000 in
/-- The second part keeps the soft mixture's log-weights. -/
theorem partAnchor_soft (V : Valuation τ sig (Elt F)) :
    after partAnchor V (Proc.devRef .tc main_v18) = V (Proc.devRef .tc main_v18) := by
  unfold partAnchor line
  dsimp only [List.take_succ_cons, List.take_zero, List.drop_succ_cons, List.drop_zero]
  after_reads_simp []

set_option maxRecDepth 100000 in
set_option maxHeartbeats 4000000 in
/-- The third part leaves the normalised log-weights. -/
theorem partUsed_used (V : Valuation τ sig (Elt F)) :
    after partUsed V (Proc.devRef .tc main_v33) = normalised (V (Proc.devRef .tc main_v18)) (V (Proc.devRef .tc main_v24)) := by
  unfold partUsed line
  dsimp only [List.take_succ_cons, List.take_zero, List.drop_succ_cons, List.drop_zero]
  after_reads_simp []
  dsimp only [normalised, rowfill, col]

set_option maxRecDepth 100000 in
set_option maxHeartbeats 4000000 in
/-- The fourth part keeps the normalised log-weights. -/
theorem partDraw_used (V : Valuation τ sig (Elt F)) :
    after partDraw V (Proc.devRef .tc main_v33) = V (Proc.devRef .tc main_v33) := by
  unfold partDraw line
  dsimp only [List.take_succ_cons, List.take_zero, List.drop_succ_cons, List.drop_zero]
  after_reads_simp []

/-- The first operations leave the normalised log-weights in their buffer. -/
theorem first_used (V : Valuation τ sig (Elt F)) :
    after first V (Proc.devRef .tc main_v33) = used (V (Proc.devRef .tc main_arg1)) := by
  rw [first_eq, after_append, after_append, after_append, partDraw_used, partUsed_used, partAnchor_anchor, partAnchor_soft,
    partSoft_soft]
  rfl

set_option maxRecDepth 100000 in
set_option maxHeartbeats 4000000 in
/-- The first operations leave the count's logarithm in its buffer. -/
theorem first_count (V : Valuation τ sig (Elt F)) :
    after first V (Proc.devRef .tc main_v0) = (logCount : FVec F S_ .f32) := by
  unfold first line
  dsimp only [List.take_succ_cons, List.take_zero]
  after_reads_simp []
  rfl

set_option maxRecDepth 100000 in
set_option maxHeartbeats 4000000 in
/-- The first operations leave the first argument. -/
theorem first_arg0 (V : Valuation τ sig (Elt F)) :
    after first V (Proc.devRef .tc main_arg0) = V (Proc.devRef .tc main_arg0) := by
  unfold first line
  dsimp only [List.take_succ_cons, List.take_zero]
  after_reads_simp []

set_option maxRecDepth 100000 in
set_option maxHeartbeats 4000000 in
/-- The first operations leave the second argument. -/
theorem first_arg1 (V : Valuation τ sig (Elt F)) :
    after first V (Proc.devRef .tc main_arg1) = V (Proc.devRef .tc main_arg1) := by
  unfold first line
  dsimp only [List.take_succ_cons, List.take_zero]
  after_reads_simp []

set_option maxRecDepth 100000 in
set_option maxHeartbeats 4000000 in
/-- The other operations leave in the first result the states at the sampled indices. -/
theorem rest_state (V : Valuation τ sig (Elt F)) :
    after rest V (Proc.devRef .tc main_v52)
      = newState (V (Proc.devRef .tc main_arg0)) (sampledOf (V (Proc.devRef .tc main_v41)) (V (Proc.devRef .tc main_v33))) := by
  unfold rest line
  dsimp only [List.drop_succ_cons, List.drop_zero]
  after_reads_simp []
  simp -implicitDefEqProofs only [TRef.toBuf, TRef.ofBuf, cast_cast, cast_eq]
  simp -implicitDefEqProofs only [newState, within, wrapped', sampledOf, largest_eq, perturbed]

set_option maxRecDepth 100000 in
set_option maxHeartbeats 4000000 in
/-- The other operations leave in the second result the new weights at the sampled indices. -/
theorem rest_weight (V : Valuation τ sig (Elt F)) :
    after rest V (Proc.devRef .tc main_v57)
      = subf (subf (taken (V (Proc.devRef .tc main_arg1))
            (sampledOf (V (Proc.devRef .tc main_v41)) (V (Proc.devRef .tc main_v33))))
          (taken (V (Proc.devRef .tc main_v33)) (sampledOf (V (Proc.devRef .tc main_v41)) (V (Proc.devRef .tc main_v33)))))
          (wfill (V (Proc.devRef .tc main_v0))) := by
  unfold rest line
  dsimp only [List.drop_succ_cons, List.drop_zero]
  after_reads_simp []
  simp -implicitDefEqProofs only [TRef.toBuf, TRef.ofBuf, cast_cast, cast_eq]
  simp -implicitDefEqProofs only [taken, within, wrapped, sampledOf, largest_eq, perturbed, wfill]
  rfl

set_option maxRecDepth 100000 in
set_option maxHeartbeats 4000000 in
/-- The other operations leave the first argument. -/
theorem rest_arg0 (V : Valuation τ sig (Elt F)) :
    after rest V (Proc.devRef .tc main_arg0) = V (Proc.devRef .tc main_arg0) := by
  unfold rest line
  dsimp only [List.drop_succ_cons, List.drop_zero]
  after_reads_simp []

set_option maxRecDepth 100000 in
set_option maxHeartbeats 4000000 in
/-- The other operations leave the second argument. -/
theorem rest_arg1 (V : Valuation τ sig (Elt F)) :
    after rest V (Proc.devRef .tc main_arg1) = V (Proc.devRef .tc main_arg1) := by
  unfold rest line
  dsimp only [List.drop_succ_cons, List.drop_zero]
  after_reads_simp []

/-- After the reference's operations the first result holds the states at the sampled indices. -/
theorem read_state (V : Valuation τ sig (Elt F)) :
    after line.1 V (Proc.devRef .tc main_v52)
      = newState (V (Proc.devRef .tc main_arg0)) (sampled (used (V (Proc.devRef .tc main_arg1)))) := by
  rw [after_line, rest_state, first_uniform, first_used, first_arg0]
  rfl

/-- After the reference's operations the second result holds the new weights at the sampled indices. -/
theorem read_weight (V : Valuation τ sig (Elt F)) :
    after line.1 V (Proc.devRef .tc main_v57)
      = newWeight (V (Proc.devRef .tc main_arg1)) (used (V (Proc.devRef .tc main_arg1)))
          (sampled (used (V (Proc.devRef .tc main_arg1)))) := by
  rw [after_line, rest_weight, first_uniform, first_used, first_arg1, first_count]
  rfl

/-- The reference's operations leave the first argument. -/
theorem read_arg0 (V : Valuation τ sig (Elt F)) :
    after line.1 V (Proc.devRef .tc main_arg0) = V (Proc.devRef .tc main_arg0) := by
  rw [after_line, rest_arg0, first_arg0]

/-- The reference's operations leave the second argument. -/
theorem read_arg1 (V : Valuation τ sig (Elt F)) :
    after line.1 V (Proc.devRef .tc main_arg1) = V (Proc.devRef .tc main_arg1) := by
  rw [after_line, rest_arg1, first_arg1]

set_option maxRecDepth 100000 in
set_option maxHeartbeats 4000000 in
/-- No operation of the reference draws fresh contents. -/
theorem line_fresh : ∀ op ∈ (line (F := F)).1, op.fresh = ∅ := by
  unfold line
  dsimp only
  intro _ h
  (repeat (cases h with | head => rfl | tail _ h => ?_))
  exact nomatch h

set_option maxRecDepth 100000 in
set_option maxHeartbeats 4000000 in
/-- The operations touch the tensor core's buffers alone. -/
theorem line_bufs : (line (F := F)).1.Forall fun op => op.bufs ⊆ tcRefs τ sig := by
  unfold line
  dsimp only
  simp

/-- The reference's run: both results as functions of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52)
          = newState (m ((c.tc : Thread nD τ).loc main_arg0)) (sampled (used (m ((c.tc : Thread nD τ).loc main_arg1))))
      ∧ r.2.mem ((c.tc : Thread nD τ).loc main_v57)
          = newWeight (m ((c.tc : Thread nD τ).loc main_arg1)) (used (m ((c.tc : Thread nD τ).loc main_arg1)))
              (sampled (used (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c main_v52).trans (read_state _), (h c main_v57).trans (read_weight _),
      (h c main_arg0).trans (read_arg0 _), (h c main_arg1).trans (read_arg1 _)⟩)
    (run_hlo defs main (fun d => line.2 d) (by decide) (by decide)
      line_bufs line_fresh m ρ)

end Cert.ReferenceIdeal.ByHand

end
-- ==== Proof.Results.lean ====
/-
The kernel program's results and the buffers its region reads, in the words of the specification.
-/
module

public import proofs.«01_k».proof.Proof.RefSpec
public import proofs.«01_k».proof.Proof.Gen.KernelIdeal.Run

@[expose] public section

noncomputable section

namespace Cert.KernelIdeal.ByHand

open Idealize.SL.Sem Cert.KernelIdeal Cert.KernelIdeal.Gen Idealize.ShloMosaic Idealize.ShloMosaic.TcCoe Cert.KernelIdeal.Value
open Cert.ReferenceIdeal.ByHand (newState newWeight taken wrapped wrapped' within soft logAdd logCount wfill rowfill col)

variable {F : FTy → Type} [FloatOps F] [Named F]
variable (m : (ℓ : Loc nD τ sig) → Buf (Elt F) ℓ)

/-- Each row's largest value, and minus infinity among the values it is the largest of. -/
def peak (s : FVec F S64x32768 .f32) : FVec F S64x1 .f32 :=
  col (maximumf (broadcastInDim S64 ![] bcast_S_S64 (constant S_ .f32 0xFF800000#32))
    (Host.reduce FloatOps.maximumf s (constant S_ .f32 0xFF800000#32) reducesTo_S64x32768_S64_d1 h_S_))

/-- The peak where that is finite, else zero. -/
def centre (s : FVec F S64x32768 .f32) : FVec F S64x1 .f32 :=
  select (cmpf .olt (Host.absf (peak s)) (broadcastInDim S64x1 ![] bcast_S_S64x1 (constant S_ .f32 0x7F800000#32))) (peak s)
    (broadcastInDim S64x1 ![] bcast_S_S64x1 (constant S_ .f32 0x00000000#32))

/-- Each row's sum of exponentials taken around `a`. -/
def total (s : FVec F S64x32768 .f32) (a : FVec F S64x1 .f32) : FVec F S64x1 .f32 :=
  col (Host.reduceAdd (Host.exp (subf s (rowfill a))) (constant S_ .f32 0x00000000#32) reducesTo_S64x32768_S64_d1 h_S_)

/-- The normalised log-weights as the kernel program spells them: with the magnitude of the sum. -/
def held (w : FVec F S64x32768 .f32) : FVec F S64x32768 .f32 :=
  subf (soft w) (rowfill (addf (Host.log (Host.absf (total (soft w) (centre (soft w))))) (centre (soft w))))

set_option maxRecDepth 8192 in
/-- The region is left with the normalised log-weights in their buffer. -/
theorem exit_held (c : Dev nD) : exitV m c (Proc.devRef .tc main_v38) = held (m ((c.tc : Thread nD τ).loc main_arg1)) := by
  rw [exit_main_v38]
  simp -implicitDefEqProofs only [held, total, centre, peak, soft, logAdd, logCount, wfill, rowfill, col]

set_option maxRecDepth 8192 in
set_option maxHeartbeats 2000000 in
/-- The region reads the normalised log-weights, each row as 32 tiles of 8 by 128. -/
theorem region_reads (c : Dev nD) : V m c main_v39
    = shapeCast S64x32x8x128 (held (m ((c.tc : Thread nD τ).loc main_arg1))) shapeCasts_S64x32768_S64x32x8x128 := by
  have e : V m c main_v39 = shapeCast S64x32x8x128 (Gen.V0 m c (Proc.devRef .tc main_v38)) shapeCasts_S64x32768_S64x32x8x128 := by
    show Gen.V0 m c (Proc.devRef .tc main_v39) = _
    simp only [Gen.V0, Gen.hostOps0, List.flatten_cons, List.flatten_nil, List.append_nil, List.cons_append,
      List.nil_append]
    after_results_simp <;> rfl
  rw [e, ← exit_held m c]
  exact congrArg (fun v => shapeCast S64x32x8x128 v shapeCasts_S64x32768_S64x32x8x128)
    (Pipeline.withArrays_of_ne _ c (Gen.V0 m c) _ main_v38 (by exact (by decide : ∀ w, Pipeline.arrRef spec0 w ≠ main_v38))).symm

/-- The indices the kernel program gathers by. -/
abbrev picked (c : Dev nD) : IVec S64x32768 32 := res_main_v43 (exitV m c)

set_option maxRecDepth 8192 in
/-- The kernel program's results are the specification's at the indices it picked, its arguments unchanged. -/
theorem run_picked (ρ : Dev nD → PrngReg) :
    θ_run defs (onTc (τ := τ) (main (F := F))) ⟨m, fun _ => 0, ρ⟩ fun r => ∀ c : Dev nD,
      r.2.mem ((c.tc : Thread nD τ).loc main_v45) = newState (m ((c.tc : Thread nD τ).loc main_arg0)) (picked m c)
      ∧ r.2.mem ((c.tc : Thread nD τ).loc main_v50) = newWeight (m ((c.tc : Thread nD τ).loc main_arg1))
          (held (m ((c.tc : Thread nD τ).loc main_arg1))) (picked m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
      rw [exit_main_arg0]
      simp -implicitDefEqProofs only [res_main_call0_v4, res_main_v44, newState, within, wrapped']
      rfl), (h c).2.1.trans (by
      rw [exit_main_arg1, exit_held, exit_main_v0]
      simp -implicitDefEqProofs only [res_main_call1_v5, res_main_call2_v5, newWeight, taken, within, wrapped, wfill, logCount]
      rfl), (h c).2.2⟩) (Value.run m ρ)

end Cert.KernelIdeal.ByHand
end
-- ==== Proof.Draw.lean ====
/-
One draw as a function of its sample, row and column: the counter's two words, the threefry mixing, the fraction made of
the mixed words, and where that fraction lies.
-/
module

public import Idealize.ShloMosaic.PureOps.Ideal
public import Idealize.ShloMosaic.PureOps.Ideal.Laws
public import Idealize.ShloMosaic.Lib.IdealHost

@[expose] public section

noncomputable section

namespace Cert.Draw

open Idealize.ShloMosaic

/-- The pair of words the mixing carries. -/
abbrev Pair := BitVec 32 × BitVec 32

/-- One round of the mixing. -/
def sround (l r : BitVec 32) (p : Pair) : Pair :=
  (p.1 + p.2, (IntOp.shli .vector p.2 l ||| IntOp.shrui .vector p.2 r) ^^^ (p.1 + p.2))

/-- The key words added after four rounds. -/
def sinject (a b : BitVec 32) (p : Pair) : Pair := (p.1 + a, p.2 + b)

/-- The four rounds of the odd groups. -/
def sodd (p : Pair) : Pair := sround 6#32 26#32 (sround 26#32 6#32 (sround 15#32 17#32 (sround 13#32 19#32 p)))

/-- The four rounds of the even groups. -/
def seven (p : Pair) : Pair := sround 24#32 8#32 (sround 16#32 16#32 (sround 29#32 3#32 (sround 17#32 15#32 p)))

/-- The mixing of twenty rounds under the key (0, 42), the first key words already added. -/
def smix (p : Pair) : Pair :=
  sinject 466689008#32 5#32 (sodd (sinject 42#32 466689012#32 (seven (sinject 0#32 45#32 (sodd
    (sinject 466689008#32 2#32 (seven (sinject 42#32 466689009#32 (sodd p)))))))))

/-- The counter's high and low words at sample `n`, row `b`, column `k`, the first key words added. -/
def word (n b k : ℕ) : Pair :=
  (BitVec.ofNat 32 (n / 2048), BitVec.ofNat 32 (n * 2097152 + b * 32768 + k) + 42#32)

/-- The fraction made of mixed words. -/
def fraction (p : Pair) : EReal :=
  Ideal.ofBits .f32 (IntOp.shrui .vector (p.1 ^^^ p.2) 9#32 ||| 1065353216#32) - Ideal.ofBits .f32 0x3F800000#32

/-- The draw at sample `n`, row `b`, column `k`. -/
def draw (n b k : ℕ) : EReal := fraction (smix (word n b k))

/-- A float whose exponent is that of one is one and its fraction bits' share. -/
theorem ofBits_ofOne (m : BitVec 32) (h : m.toNat < 8388608) :
    Ideal.ofBits .f32 (m ||| 1065353216#32) = ((1 + (m.toNat : ℝ) / 8388608 : ℝ) : EReal) := by
  have e1 : (m ||| 1065353216#32).extractLsb' 31 1 = 0#1 := by
    rw [BitVec.extractLsb'_or, show (1065353216#32).extractLsb' 31 1 = 0#1 by decide, BitVec.or_zero]
    apply BitVec.eq_of_toNat_eq
    simp only [BitVec.extractLsb'_toNat, Nat.shiftRight_eq_div_pow, BitVec.toNat_ofNat]
    omega
  have e2 : ((m ||| 1065353216#32).extractLsb' 23 8).toNat = 127 := by
    rw [BitVec.extractLsb'_or, show m.extractLsb' 23 8 = 0#8 by
      apply BitVec.eq_of_toNat_eq
      simp only [BitVec.extractLsb'_toNat, Nat.shiftRight_eq_div_pow, BitVec.toNat_ofNat]
      omega]
    decide
  have e3 : ((m ||| 1065353216#32).extractLsb' 0 23).toNat = m.toNat := by
    rw [BitVec.extractLsb'_or, show (1065353216#32).extractLsb' 0 23 = 0#23 by decide, BitVec.or_zero]
    simp only [BitVec.extractLsb'_toNat, Nat.shiftRight_eq_div_pow]
    omega
  change Ideal.ieee 8 23 (m ||| 1065353216#32) = _
  unfold Ideal.ieee
  dsimp only [Nat.reduceAdd]
  rw [e1, e2, e3]
  rw [if_neg (by decide), if_neg (by decide)]
  congr 1
  norm_num
  ring

/-- The fraction is a real in [0, 1). -/
theorem fraction_mem (p : Pair) : ∃ r : ℝ, fraction p = (r : EReal) ∧ 0 ≤ r ∧ r < 1 := by
  have h : (IntOp.shrui .vector (p.1 ^^^ p.2) 9#32).toNat < 8388608 := by
    have e : IntOp.shrui .vector (p.1 ^^^ p.2) 9#32 = (p.1 ^^^ p.2) >>> (9 : ℕ) := rfl
    rw [e, BitVec.toNat_ushiftRight, Nat.shiftRight_eq_div_pow]
    have := (p.1 ^^^ p.2).isLt
    omega
  refine ⟨((IntOp.shrui .vector (p.1 ^^^ p.2) 9#32).toNat : ℝ) / 8388608, ?_, by positivity, ?_⟩
  · rw [fraction, ofBits_ofOne _ h, Ideal.ofBits_one_f32, ← EReal.coe_one, ← EReal.coe_sub]
    congr 1
    ring
  · rw [div_lt_one (by norm_num)]
    exact_mod_cast h

end Cert.Draw

end
-- ==== Proof.First.lean ====
/-
The first least index of a row of costs: what it is, that it is one, how a lane's running minimum over the tiles and the
least index among the lanes at the minimum give it.
-/
module

public import Idealize.ShloMosaic.PureOps.Ideal.Laws

@[expose] public section

namespace Cert.First

open Idealize.ShloMosaic

/-- A select by a strict comparison. -/
theorem select_olt {α : Type} (x y : EReal) (a b : α) :
    Scalar.select (FloatOps.cmpf (F := Ideal) (φ := .f32) .olt x y) a b = if x < y then a else b := by
  by_cases h : x < y <;> simp [h, Scalar.select, Ideal.cmpf_def, Ideal.cmp]

/-- A select by an equality. -/
theorem select_oeq {α : Type} (x y : EReal) (a b : α) :
    Scalar.select (FloatOps.cmpf (F := Ideal) (φ := .f32) .oeq x y) a b = if x = y then a else b := by
  by_cases h : x = y <;> simp [h, Scalar.select, Ideal.cmpf_def, Ideal.cmp]

/-- `k` is the first index of the row at which the cost is least. -/
def First (f : ℕ → EReal) (k : ℕ) : Prop := k < 32768 ∧ (∀ j, j < 32768 → f k ≤ f j) ∧ ∀ j, j < k → f k < f j

/-- The first least index is one. -/
theorem First.unique {f : ℕ → EReal} {k k' : ℕ} (h : First f k) (h' : First f k') : k = k' := by
  rcases lt_trichotomy k k' with c | c | c
  · exact absurd (h'.2.2 k c) (not_lt.2 (h.2.1 k' h'.1))
  · exact c
  · exact absurd (h.2.2 k' c) (not_lt.2 (h'.2.1 k h.1))

/-- What a lane holds after `n` tiles: a bound of their costs, and the first tile at it (tile 0 and the top before any). -/
def Held (g : ℕ → EReal) (n : ℕ) (bm : EReal) (bt : ℕ) : Prop :=
  (∀ t, t < n → bm ≤ g t) ∧ ((bm = ⊤ ∧ bt = 0) ∨ (bt < n ∧ bm = g bt ∧ ∀ t, t < bt → bm < g t))

/-- Before any tile a lane holds the top. -/
theorem held_zero (g : ℕ → EReal) : Held g 0 ⊤ 0 := ⟨fun _ h => absurd h (Nat.not_lt_zero _), .inl ⟨rfl, rfl⟩⟩

/-- A tile of less cost is taken. -/
theorem Held.take {g : ℕ → EReal} {n : ℕ} {bm : EReal} {bt : ℕ} (h : Held g n bm bt) (hlt : g n < bm) :
    Held g (n + 1) (g n) n := by
  refine ⟨fun t ht => ?_, .inr ⟨Nat.lt_succ_self n, rfl, fun t ht => hlt.trans_le (h.1 t ht)⟩⟩
  rcases Nat.lt_succ_iff_lt_or_eq.1 ht with c | c
  · exact hlt.le.trans (h.1 t c)
  · exact c ▸ le_rfl

/-- A tile of no less cost is left. -/
theorem Held.leave {g : ℕ → EReal} {n : ℕ} {bm : EReal} {bt : ℕ} (h : Held g n bm bt) (hge : ¬ g n < bm) :
    Held g (n + 1) bm bt := by
  refine ⟨fun t ht => ?_, h.2.imp id fun c => ⟨c.1.trans (Nat.lt_succ_self n), c.2⟩⟩
  rcases Nat.lt_succ_iff_lt_or_eq.1 ht with c | c
  · exact h.1 t c
  · exact c ▸ not_lt.1 hge

/-- After some tile the lane holds the first tile at the least cost. -/
theorem Held.first {g : ℕ → EReal} {n : ℕ} {bm : EReal} {bt : ℕ} (h : Held g n bm bt) (hn : 0 < n) :
    bt < n ∧ bm = g bt ∧ ∀ t, t < bt → bm < g t := by
  rcases h.2 with ⟨c, c'⟩ | c
  · subst c c'
    exact ⟨hn, (top_le_iff.1 (h.1 0 hn)).symm, fun t ht => absurd ht (Nat.not_lt_zero t)⟩
  · exact c

/-- Among 1024 lanes at the first tile of their least cost, the least index at the least cost of all is the first. -/
theorem first_of_lanes (f : ℕ → EReal) (bm : ℕ → EReal) (bt : ℕ → ℕ)
    (hb : ∀ p, p < 1024 → Held (fun t => f (t * 1024 + p)) 32 (bm p) (bt p)) (m : EReal)
    (hm : ∀ p, p < 1024 → m ≤ bm p) (K : ℕ) (hK : ∀ p, p < 1024 → bm p = m → K ≤ bt p * 1024 + p)
    (p1 : ℕ) (hp1 : p1 < 1024) (h1 : bm p1 = m) (hK1 : K = bt p1 * 1024 + p1) : First f K := by
  have hf : ∀ p, p < 1024 → _ := fun p hp => (hb p hp).first (by norm_num)
  have e : f K = m := by rw [hK1, ← h1]; exact ((hf p1 hp1).2.1).symm
  have split : ∀ j, j = j / 1024 * 1024 + j % 1024 := fun j => by omega
  have le : ∀ j, j < 32768 → bm (j % 1024) ≤ f j := fun j hj => by
    have := (hb (j % 1024) (by omega)).1 (j / 1024) (by omega)
    simpa only [← split j] using this
  have hlt : K < 32768 := by
    have := (hf p1 hp1).1
    omega
  refine ⟨hlt, fun j hj => e ▸ (hm _ (by omega)).trans (le j hj), fun j hj => ?_⟩
  have h2 := hm (j % 1024) (by omega)
  have h3 := le j (by omega)
  refine lt_of_le_of_ne (e ▸ h2.trans h3) fun c => ?_
  have h4 : bm (j % 1024) = m := le_antisymm (h3.trans (c ▸ e.le)) h2
  have h5 := hK _ (by omega) h4
  have h6 : ¬ j / 1024 < bt (j % 1024) := fun c' => by
    have := (hf (j % 1024) (by omega)).2.2 _ c'
    rw [← split j, h4, ← c, e] at this
    exact lt_irrefl _ this
  omega

end Cert.First
-- ==== Proof.Cost.lean ====
/-
The cost of a column: the logarithm of an exponential draw less the column's log-weight. The column of least cost is the
one of largest perturbed log-weight.
-/
module

public import proofs.«01_k».proof.Proof.Draw
public import proofs.«01_k».proof.Proof.First

@[expose] public section

noncomputable section

namespace Cert.First

open Idealize.ShloMosaic Cert.Draw

/-- The cost of column `k` for sample `n` of row `b` under the row's log-weights `w`. -/
def cost (n b : ℕ) (w : ℕ → EReal) (k : ℕ) : EReal := Ideal.log (0 - Ideal.log (draw n b k)) - w k

/-- The logarithm of a real. -/
theorem log_coe (r : ℝ) : Ideal.log (r : EReal) = if r ≤ 0 then ⊥ else ((Real.log r : ℝ) : EReal) := rfl

/-- The logarithm of the top. -/
theorem log_top : Ideal.log (⊤ : EReal) = ⊤ := rfl

/-- The logarithm of a value above zero is not the bottom. -/
theorem log_ne_bot {x : EReal} (h : 0 < x) : Ideal.log x ≠ ⊥ := by
  induction x using EReal.rec with
  | bot => exact absurd h (by simp)
  | coe r =>
    have hr : 0 < r := EReal.coe_pos.1 h
    rw [log_coe, if_neg (not_le.2 hr)]
    exact EReal.coe_ne_bot _
  | top => rw [log_top]; exact top_ne_bot

/-- The logarithm of a draw is below zero. -/
theorem log_draw_neg (n b k : ℕ) : 0 < -Ideal.log (draw n b k) := by
  obtain ⟨r, h, h0, h1⟩ := fraction_mem (smix (word n b k))
  rw [draw, h]
  rcases h0.eq_or_lt with c | c
  · rw [log_coe, if_pos c.ge]
    simp
  · have : Real.log r < 0 := Real.log_neg c h1
    rw [log_coe, if_neg (not_le.2 c), ← EReal.coe_neg]
    exact EReal.coe_pos.2 (neg_pos.2 this)

/-- A perturbed log-weight is the cost with its sign changed, where the log-weight is not the top. -/
theorem perturbed_eq (n b : ℕ) (w : ℕ → EReal) (k : ℕ) (hw : w k ≠ ⊤) :
    -Ideal.log (-Ideal.log (draw n b k)) + w k = -cost n b w k := by
  rw [cost, EReal.neg_sub (.inl (by rw [zero_sub]; exact log_ne_bot (log_draw_neg n b k))) (.inr hw), zero_sub]

end Cert.First

end
-- ==== Proof.Used.lean ====
/-
A normalised log-weight is never the top.
-/
module

public import proofs.«01_k».proof.Proof.RefSpec
public import proofs.«01_k».proof.Proof.Cost
public import Idealize.ShloMosaic.Lib.Pointwise

@[expose] public section

noncomputable section

namespace Cert.ReferenceIdeal.ByHand

open Cert.ReferenceIdeal Cert.ReferenceIdeal.Gen Idealize.ShloMosaic Idealize.ShloMosaic.TcCoe Cert.First

/-- A normalised log-weight, written out. -/
theorem normalised_at (s : FVec Ideal S64x32768 .f32) (a : FVec Ideal S64x1 .f32) (b : Fin 64) (k : Fin 32768) :
    normalised s a (ix2 b k) = s (ix2 b k) - (Ideal.log (0 + ∑ j : Fin 32768, Ideal.exp (s (ix2 b j) - a (ix2 b 0))) + a (ix2 b 0)) := by
  unfold normalised rowfill col
  simp only [pointwise]
  rfl

/-- A choice by a comparison of magnitudes, at a position. -/
theorem pick_at (R a z : FVec Ideal S64x1 .f32) (j : S64x1.Idx) : select (cmpf .olt (Host.absf R) a) R z j
    = Scalar.select (FloatOps.cmpf (F := Ideal) (φ := .f32) .olt (max (R j) (-R j)) (a j)) (R j) (z j) := rfl

/-- A literal laid over the column. -/
theorem literal_at (w : BitVec 32) (j : S64x1.Idx) :
    broadcastInDim S64x1 ![] bcast_S_S64x1 (constant (F := Ideal) S_ .f32 w) j = Ideal.ofBits .f32 w := rfl

/-- The largest of a row where finite, else zero, as a choice by one comparison. -/
theorem anchor_at (s : FVec Ideal S64x32768 .f32) (j : S64x1.Idx) :
    ∃ R : EReal, anchor s j = if max R (-R) < Ideal.ofBits .f32 0x7F800000#32 then R else Ideal.ofBits .f32 0x00000000#32 := by
  rw [anchor, pick_at, literal_at, literal_at]
  exact ⟨_, select_olt _ _ _ _⟩

/-- The anchor is a real number. -/
theorem anchor_real (s : FVec Ideal S64x32768 .f32) (j : S64x1.Idx) : ∃ r : ℝ, (anchor s j : EReal) = r := by
  obtain ⟨R, h⟩ := anchor_at s j
  rw [h]
  split_ifs with c
  · induction R using EReal.rec with
    | bot => exact absurd (c.trans_le le_top) (by simp)
    | coe r => exact ⟨r, rfl⟩
    | top => exact absurd (c.trans_le le_top) (by simp)
  · exact ⟨0, by rw [Ideal.ofBits_zero_f32]; rfl⟩

/-- The exponential is never below zero. -/
theorem exp_nonneg (x : EReal) : 0 ≤ Ideal.exp x := by
  induction x using EReal.rec with
  | bot => exact le_rfl
  | coe r => exact EReal.coe_nonneg.2 (Real.exp_pos r).le
  | top => exact le_top

/-- The exponential of a value other than the bottom is above zero. -/
theorem exp_pos_of {x : EReal} (h : x ≠ ⊥) : 0 < Ideal.exp x := by
  induction x using EReal.rec with
  | bot => exact absurd rfl h
  | coe r => exact EReal.coe_pos.2 (Real.exp_pos r)
  | top => exact EReal.zero_lt_top

/-- A value less the log-sum of a row holding it is never the top. -/
theorem less_lse_ne_top {m : ℕ} (s : Fin m → EReal) (a : ℝ) (k : Fin m) :
    s k - (Ideal.log (0 + ∑ j, Ideal.exp (s j - (a : EReal))) + (a : EReal)) ≠ ⊤ := by
  have hle : Ideal.exp (s k - (a : EReal)) ≤ 0 + ∑ j, Ideal.exp (s j - (a : EReal)) := by
    rw [zero_add]
    exact Finset.single_le_sum (f := fun j => Ideal.exp (s j - (a : EReal))) (fun j _ => exp_nonneg _) (Finset.mem_univ k)
  generalize 0 + ∑ j, Ideal.exp (s j - (a : EReal)) = t at hle
  generalize s k = x at hle
  induction x using EReal.rec with
  | bot => simp
  | coe r =>
    have h : Ideal.log t ≠ ⊥ := log_ne_bot ((exp_pos_of (by rw [← EReal.coe_sub]; exact EReal.coe_ne_bot _)).trans_le hle)
    generalize Ideal.log t = u at h
    induction u using EReal.rec with
    | bot => exact absurd rfl h
    | coe u => rw [← EReal.coe_add, ← EReal.coe_sub]; exact EReal.coe_ne_top _
    | top => simp
  | top =>
    have e : Ideal.exp ((⊤ : EReal) - (a : EReal)) = ⊤ := by rw [EReal.top_sub_coe]; rfl
    rw [e, top_le_iff] at hle
    subst hle
    rw [log_top, EReal.top_add_coe, EReal.sub_top]
    exact bot_ne_top

/-- A log-weight the reference uses is never the top. -/
theorem used_ne_top (w : FVec Ideal S64x32768 .f32) (b : Fin 64) (k : Fin 32768) : (used w (ix2 b k) : EReal) ≠ ⊤ := by
  obtain ⟨r, hr⟩ := anchor_real (soft w) (ix2 b 0)
  unfold used
  rw [normalised_at, hr]
  exact less_lse_ne_top (fun j => soft w (ix2 b j)) r k

end Cert.ReferenceIdeal.ByHand

end
-- ==== Proof.Held.lean ====
/-
The kernel program's normalised log-weights are the reference's.
-/
module

public import proofs.«01_k».proof.Proof.Results
public import proofs.«01_k».proof.Proof.Used

@[expose] public section

noncomputable section

namespace Cert.KernelIdeal.ByHand

open Cert.KernelIdeal Cert.KernelIdeal.Gen Idealize.ShloMosaic Idealize.ShloMosaic.TcCoe
open Cert.ReferenceIdeal.ByHand (used normalised anchor soft rowfill col exp_nonneg)

/-- The word of minus infinity is the bottom. -/
theorem lowest : Ideal.ofBits .f32 0xFF800000#32 = (⊥ : EReal) := by
  simp [Ideal.ofBits, Ideal.ieee]

/-- The larger of minus infinity and a column's values is the values. -/
theorem topped (x : FVec Ideal S64 .f32) :
    maximumf (broadcastInDim S64 ![] bcast_S_S64 (constant S_ .f32 0xFF800000#32)) x = x := by
  funext j
  show max (Ideal.ofBits .f32 0xFF800000#32) (x j : EReal) = x j
  rw [lowest]
  exact max_eq_right bot_le

/-- The kernel program's centre of a row is the reference's anchor. -/
theorem centre_eq (s : FVec Ideal S64x32768 .f32) : centre s = anchor s := by
  unfold centre peak anchor
  rw [topped]

/-- A row's sum of exponentials, written out. -/
theorem total_at (s : FVec Ideal S64x32768 .f32) (a : FVec Ideal S64x1 .f32) (b : Fin 64) :
    total s a (ix2 b 0) = 0 + ∑ j : Fin 32768, Ideal.exp (s (ix2 b j) - a (ix2 b 0)) := by
  unfold total rowfill col
  simp only [pointwise]
  rfl

/-- A row's sum of exponentials is its own magnitude. -/
theorem total_abs (s : FVec Ideal S64x32768 .f32) (a : FVec Ideal S64x1 .f32) : Host.absf (total s a) = total s a := by
  funext i
  obtain ⟨b, rfl⟩ : ∃ b : Fin 64, i = ix2 b 0 := ⟨i 0, by
    refine (eq_ix2 i).trans ?_
    congr 1
    exact Subsingleton.elim _ _⟩
  show max (total s a (ix2 b 0) : EReal) (-(total s a (ix2 b 0))) = total s a (ix2 b 0)
  have h : (0 : EReal) ≤ total s a (ix2 b 0) := by
    rw [total_at, zero_add]
    exact Finset.sum_nonneg fun j _ => exp_nonneg _
  exact max_eq_left ((EReal.neg_le_neg_iff.2 h).trans (neg_zero.le.trans h))

/-- The kernel program's normalised log-weights are the reference's. -/
theorem held_eq (w : FVec Ideal S64x32768 .f32) : held w = used w := by
  unfold held
  rw [total_abs, centre_eq]
  rfl

end Cert.KernelIdeal.ByHand

end
-- ==== Proof.Body.lean ====
/-
What one block of the kernel computes, written once: the counter's words, the threefry mixing, the draw, one tile's
step of the running minimum, and the choice of the least index. `body_eq` says the certificate's body is this.
-/
module

public import proofs.«01_k».proof.Proof.Gen.KernelIdeal.Frame
public import Idealize.ShloMosaic.Lib.Tactic.Stretches

@[expose] public section

noncomputable section

namespace Cert.KernelIdeal.ByHand

open Cert.KernelIdeal Cert.KernelIdeal.Gen Idealize.ShloMosaic Idealize.ShloMosaic.TcCoe

variable {F : FTy → Type} [FloatOps F] [Named F]

/-- The pair of words the mixing carries, at every position of the block. -/
abbrev Words := IVec S8x8x128 32 × IVec S8x8x128 32

/-- One round of the mixing: add, rotate left by `l` (so right by `r`), exclusive or. -/
def vround (l r : BitVec 32) (p : Words) : Words :=
  (addi p.1 p.2,
   xori (ori (shli p.2 (broadcast S8x8x128 l)) (shrui p.2 (broadcast S8x8x128 r))) (addi p.1 p.2))

/-- The key words added after four rounds. -/
def vinject (a b : BitVec 32) (p : Words) : Words :=
  (addi p.1 (broadcast S8x8x128 a), addi p.2 (broadcast S8x8x128 b))

/-- The four rounds of the odd groups. -/
def vodd (p : Words) : Words := vround 6#32 26#32 (vround 26#32 6#32 (vround 15#32 17#32 (vround 13#32 19#32 p)))

/-- The four rounds of the even groups. -/
def veven (p : Words) : Words := vround 24#32 8#32 (vround 16#32 16#32 (vround 29#32 3#32 (vround 17#32 15#32 p)))

/-- The mixing of twenty rounds under the key (0, 42), the first key words already added. -/
def vmix (p : Words) : Words :=
  vinject 466689008#32 5#32 (vodd (vinject 42#32 466689012#32 (veven (vinject 0#32 45#32 (vodd
    (vinject 466689008#32 2#32 (veven (vinject 42#32 466689009#32 (vodd p)))))))))

/-- The uniform draw of mixed words: the exclusive or's high 23 bits as the fraction of a float of [1, 2), less one. -/
def vuniform (p : Words) : FVec F S8x8x128 .f32 :=
  subf (bitcastToFloat .f32 (ori (shrui (xori p.1 p.2) (broadcast S8x8x128 9#32)) (broadcast S8x8x128 1065353216#32)))
    (broadcast S8x8x128 (Scalar.ofBits .f32 0x3F800000#32))

/-- A tile's perturbed weights: the logarithm of the exponential draw less the log-weight. -/
def vperturbed (p : Words) (lt : Vec F S1x1x8x128 .f32) : FVec F S8x8x128 .f32 :=
  subf (log (subf (broadcast S8x8x128 (Scalar.ofBits .f32 0x00000000#32)) (log (vuniform p))))
    (broadcastTo S8x8x128 (shapeCast S1x8x128 (shapeCast S8x128 lt shapeCasts_S1x1x8x128_S8x128) shapeCasts_S8x128_S1x8x128)
      broadcasts_S1x8x128_S8x8x128)

/-- Tile `n` of the row of log-weights. -/
def vtile (x0 : Vec F S1x32x8x128 .f32) (n : ℕ) (h : n < 32) : Vec F S1x1x8x128 .f32 :=
  View.ld x0 (Rect.unit (s := S1x32x8x128) ![0, n, 0, 0] S1x1x8x128.size
    (fun a => by match a with
      | 0 => exact Nat.le_refl 1
      | 1 => exact h
      | 2 => exact Nat.le_refl 8
      | 3 => exact Nat.le_refl 128))

/-- Tile `n`'s perturbed weights at grid point `i`. -/
def vcost (i : grid0.Coords) (x0 : Vec F S1x32x8x128 .f32) (n : ℕ) (h : n < 32) : FVec F S8x8x128 .f32 :=
  vperturbed (vmix (k0_pay3 i, addi (k0_pay4 i) (broadcast S8x8x128 (BitVec.ofNat 32 (42 + 1024 * n))))) (vtile x0 n h)

/-- The running minimum and the tile it came from, after `n` tiles. -/
def vcarry (i : grid0.Coords) (x0 : Vec F S1x32x8x128 .f32) : (n : ℕ) → n ≤ 32 → FVec F S8x8x128 .f32 × IVec S8x8x128 32
  | 0, _ => (k0_pay6, k0_pay7)
  | n + 1, h =>
    let c := vcarry i x0 n (Nat.le_of_succ_le h)
    let d := vcost i x0 n h
    (select (cmpf .olt d c.1) d c.1, select (cmpf .olt d c.1) (broadcast S8x8x128 (BitVec.ofNat 32 n)) c.2)

/-- The least of the running minima over sublanes and lanes, laid over the block. -/
def vleast (v : FVec F S8x8x128 .f32) : FVec F S8x8x128 .f32 :=
  broadcastTo S8x8x128 (shapeCast S8x1x1 (multiReduction .minimumf [1] S8x1 (shapeCast S8x8x1
    (multiReduction .minimumf [2] S8x8 v 0x7F800000#32 reduces_S8x8x128_S8x8 (.inl rfl) rfl) shapeCasts_S8x8_S8x8x1)
    0x7F800000#32 reduces_S8x8x1_S8x1 (.inl rfl) rfl) shapeCasts_S8x1_S8x1x1) broadcasts_S8x1x1_S8x8x128

/-- The least of a block of indices over sublanes and lanes, laid over the output block's lanes. -/
def vleastIdx (w : IVec S8x8x128 32) : IVec S1x1x8x1x128 32 :=
  shapeCast S1x1x8x1x128 (broadcastTo S8x1x128 (shapeCast S8x1x1 (shapeCast S8x1x1 (multiReductionI .minsi [1] S8x1
    (shapeCast S8x8x1 (multiReductionI .minsi [2] S8x8 w 2147483647#32 reduces_S8x8x128_S8x8 rfl) shapeCasts_S8x8_S8x8x1)
    2147483647#32 reduces_S8x8x1_S8x1 rfl) shapeCasts_S8x1_S8x1x1) shapeCasts_S8x1x1_S8x1x1) broadcasts_S8x1x1_S8x1x128)
    shapeCasts_S8x1x128_S1x1x8x1x128

/-- The block of chosen indices: among the positions at the minimum, the least index. -/
def vchosen (c : FVec F S8x8x128 .f32 × IVec S8x8x128 32) : IVec S1x1x8x1x128 32 :=
  vleastIdx (select (cmpf .oeq c.1 (vleast c.1)) (addi (muli c.2 (broadcast S8x8x128 1024#32)) k0_pay5)
    (broadcast S8x8x128 2147483647#32))

set_option maxRecDepth 100000 in
set_option maxHeartbeats 4000000 in
/-- The body's output buffer holds the chosen indices after all 32 tiles. -/
theorem body_eq (i : grid0.Coords) (x0 : Vec F S1x32x8x128 .f32) :
    out0_1 i x0 = View.canon [⟨r0_32, vchosen (vcarry i x0 32 (Nat.le_refl 32))⟩] := by
  unfold out0_1
  simp only [vcarry]
  sl_open_pay
  dsimp only [vchosen, vleast, vleastIdx, vcost, vperturbed, vuniform, vmix, vodd, veven, vround, vinject, vtile,
    Nat.reduceMul, Nat.reduceAdd]
  sl_open_pay
  rfl

end Cert.KernelIdeal.ByHand

end
-- ==== Proof.KernelDraw.lean ====
/-
The kernel's draws read at a position of a block: each is the draw of its sample, row and column.
-/
module

public import proofs.«01_k».proof.Proof.Body
public import proofs.«01_k».proof.Proof.Draw
public import Idealize.ShloMosaic.Lib.Pointwise

@[expose] public section

noncomputable section

namespace Cert.KernelIdeal.ByHand

open Cert.KernelIdeal Cert.KernelIdeal.Gen Idealize.ShloMosaic Idealize.ShloMosaic.TcCoe Cert.Draw

/-- A pair of blocks of words at one position. -/
def at_ (j : S8x8x128.Idx) (p : Words) : Pair := (p.1 j, p.2 j)

/-- The block's round is, at each position, the round of that position's words. -/
theorem vround_at (l r : BitVec 32) (j : S8x8x128.Idx) (p : Words) : at_ j (vround l r p) = sround l r (at_ j p) := rfl

/-- The block's key injection is, at each position, the injection into that position's words. -/
theorem vinject_at (a b : BitVec 32) (j : S8x8x128.Idx) (p : Words) : at_ j (vinject a b p) = sinject a b (at_ j p) := rfl

/-- The block's mixing is, at each position, the mixing of that position's words. -/
theorem vmix_at (j : S8x8x128.Idx) (p : Words) : at_ j (vmix p) = smix (at_ j p) := by
  simp only [vmix, smix, vodd, veven, sodd, seven, vround_at, vinject_at]

/-- A word shifted left is the word of the product. -/
theorem shl_ofNat (a k : ℕ) : BitVec.ofNat 32 a <<< k = BitVec.ofNat 32 (a * 2 ^ k) := by
  apply BitVec.eq_of_toNat_eq
  rw [BitVec.toNat_shiftLeft, Nat.shiftLeft_eq, BitVec.toNat_ofNat, BitVec.toNat_ofNat, Nat.mod_mul_mod]

/-- A small word shifted right by eleven is the word of the quotient. -/
theorem shr_ofNat (a : ℕ) (h : a < 4294967296) : BitVec.ofNat 32 a >>> (11 : ℕ) = BitVec.ofNat 32 (a / 2048) := by
  apply BitVec.eq_of_toNat_eq
  rw [BitVec.toNat_ushiftRight, Nat.shiftRight_eq_div_pow, BitVec.toNat_ofNat, BitVec.toNat_ofNat]
  omega

/-- The block's words at a position are the counter's words of its sample, row and column. -/
theorem words_at (i : grid0.Coords) (t : ℕ) (ht : t < 32) (n s : Fin 8) (l : Fin 128) :
    at_ (ix3 n s l) (k0_pay3 i, addi (k0_pay4 i) (broadcast S8x8x128 (BitVec.ofNat 32 (42 + 1024 * t))))
      = word ((i 1).val * 8 + n.val) (i 0).val (t * 1024 + s.val * 128 + l.val) := by
  have h0 : (i 0).val < 64 := (i 0).isLt
  have h1 : (i 1).val < 4096 := (i 1).isLt
  have hn := n.isLt
  have hs := s.isLt
  have hl := l.isLt
  have e1 : k0_pay3 i (ix3 n s l) = (BitVec.ofNat 32 n.val + BitVec.ofNat 32 (i 1).val * 8#32) >>> (11 : ℕ) := by
    change (BitVec.ofNat 32 (0 * 8 + n.val) + BitVec.ofNat 32 (i 1).val * 8#32) >>> (11 : ℕ) = _
    rw [Nat.zero_mul, Nat.zero_add]
  have e2 : k0_pay4 i (ix3 n s l) = (BitVec.ofNat 32 n.val + BitVec.ofNat 32 (i 1).val * 8#32) <<< (21 : ℕ)
      + BitVec.ofNat 32 (i 0).val <<< (15 : ℕ) + BitVec.ofNat 32 s.val * 128#32 + BitVec.ofNat 32 l.val := by
    change (BitVec.ofNat 32 (0 * 8 + n.val) + BitVec.ofNat 32 (i 1).val * 8#32) <<< (21 : ℕ)
      + BitVec.ofNat 32 (i 0).val <<< (15 : ℕ) + BitVec.ofNat 32 (0 * 8 + s.val) * 128#32 + BitVec.ofNat 32 (0 * 128 + l.val) = _
    simp only [Nat.zero_mul, Nat.zero_add]
  have hp : at_ (ix3 n s l) (k0_pay3 i, addi (k0_pay4 i) (broadcast S8x8x128 (BitVec.ofNat 32 (42 + 1024 * t))))
      = (k0_pay3 i (ix3 n s l), k0_pay4 i (ix3 n s l) + BitVec.ofNat 32 (42 + 1024 * t)) := rfl
  rw [hp, e1, e2, word, ← BitVec.ofNat_mul, ← BitVec.ofNat_add, shl_ofNat, shl_ofNat, ← BitVec.ofNat_mul, ← BitVec.ofNat_add,
    ← BitVec.ofNat_add, ← BitVec.ofNat_add, ← BitVec.ofNat_add, ← BitVec.ofNat_add, shr_ofNat _ (by omega), Nat.add_comm n.val]
  refine Prod.ext ?_ ?_
  · rfl
  · exact congrArg (BitVec.ofNat 32) (by omega)

/-- The fraction of a block's words is, at each position, the fraction of that position's words. -/
theorem vuniform_at (p : Words) (j : S8x8x128.Idx) : vuniform (F := Ideal) p j = fraction (at_ j p) := rfl

/-- A block's perturbed weights at a position. -/
theorem vperturbed_at (p : Words) (lt : Vec Ideal S1x1x8x128 .f32) (j : S8x8x128.Idx) :
    vperturbed p lt j = Ideal.log (Ideal.ofBits .f32 0x00000000#32 - Ideal.log (vuniform (F := Ideal) p j))
      - broadcastTo S8x8x128 (shapeCast S1x8x128 (shapeCast S8x128 lt shapeCasts_S1x1x8x128_S8x128)
          shapeCasts_S8x128_S1x8x128) broadcasts_S1x8x128_S8x8x128 j := rfl

/-- A tile laid over the block, at a position. -/
theorem laid_at (lt : Vec Ideal S1x1x8x128 .f32) (n s : Fin 8) (l : Fin 128) :
    broadcastTo S8x8x128 (shapeCast S1x8x128 (shapeCast S8x128 lt shapeCasts_S1x1x8x128_S8x128)
      shapeCasts_S8x128_S1x8x128) broadcasts_S1x8x128_S8x8x128 (ix3 n s l) = lt (ix4 0 0 s l) := by
  simp only [pointwise]
  rfl

/-- The tile read off the row of log-weights, at a position. -/
theorem vtile_at (x0 : Vec Ideal S1x32x8x128 .f32) (t : ℕ) (ht : t < 32) (s : Fin 8) (l : Fin 128) :
    vtile x0 t ht (ix4 0 0 s l) = x0 (ix4 0 ⟨t, ht⟩ s l) := by
  unfold vtile
  simp only [pointwise]
  exact congrArg x0 (funext fun a => by fin_cases a <;> apply Fin.ext <;> simp)

/-- A tile's cost at a position: the logarithm of the exponential draw less the log-weight. -/
theorem vcost_at (i : grid0.Coords) (x0 : Vec Ideal S1x32x8x128 .f32) (t : ℕ) (ht : t < 32) (n s : Fin 8) (l : Fin 128) :
    vcost i x0 t ht (ix3 n s l)
      = Ideal.log (0 - Ideal.log (draw ((i 1).val * 8 + n.val) (i 0).val (t * 1024 + s.val * 128 + l.val)))
        - x0 (ix4 0 ⟨t, ht⟩ s l) := by
  rw [vcost, vperturbed_at, vuniform_at, vmix_at, words_at i t ht, laid_at, vtile_at, Ideal.ofBits_zero_f32, draw]

end Cert.KernelIdeal.ByHand

end
-- ==== Proof.Carry.lean ====
/-
What a position of a block holds after the tiles, in the language of costs: the first tile of least cost, and that cost.
-/
module

public import proofs.«01_k».proof.Proof.KernelDraw
public import proofs.«01_k».proof.Proof.Cost

@[expose] public section

noncomputable section

namespace Cert.KernelIdeal.ByHand

open Cert.KernelIdeal Cert.KernelIdeal.Gen Idealize.ShloMosaic Idealize.ShloMosaic.TcCoe Cert.Draw Cert.First

/-- The start named in the kernel is the top. -/
theorem start_at (j : S8x8x128.Idx) : (k0_pay6 (F := Ideal)) j = (⊤ : EReal) := rfl

/-- The carry's minimum after one more tile. -/
theorem vcarry_fst (i : grid0.Coords) (x0 : Vec Ideal S1x32x8x128 .f32) (t : ℕ) (ht : t + 1 ≤ 32) (j : S8x8x128.Idx) :
    (vcarry i x0 (t + 1) ht).1 j
      = if vcost i x0 t ht j < (vcarry i x0 t (Nat.le_of_succ_le ht)).1 j then vcost i x0 t ht j
        else (vcarry i x0 t (Nat.le_of_succ_le ht)).1 j := select_olt _ _ _ _

/-- The carry's tile after one more tile. -/
theorem vcarry_snd (i : grid0.Coords) (x0 : Vec Ideal S1x32x8x128 .f32) (t : ℕ) (ht : t + 1 ≤ 32) (j : S8x8x128.Idx) :
    (vcarry i x0 (t + 1) ht).2 j
      = if vcost i x0 t ht j < (vcarry i x0 t (Nat.le_of_succ_le ht)).1 j then BitVec.ofNat 32 t
        else (vcarry i x0 t (Nat.le_of_succ_le ht)).2 j := select_olt _ _ _ _

/-- After `t` tiles a position holds the first tile of least cost among them. -/
theorem vcarry_held (i : grid0.Coords) (x0 : Vec Ideal S1x32x8x128 .f32) (w : ℕ → EReal)
    (hx : ∀ (t : Fin 32) (s : Fin 8) (l : Fin 128), x0 (ix4 0 t s l) = w (t.val * 1024 + s.val * 128 + l.val))
    (n s : Fin 8) (l : Fin 128) (t : ℕ) (ht : t ≤ 32) :
    Held (fun t => cost ((i 1).val * 8 + n.val) (i 0).val w (t * 1024 + (s.val * 128 + l.val))) t
      ((vcarry i x0 t ht).1 (ix3 n s l)) ((vcarry i x0 t ht).2 (ix3 n s l)).toNat := by
  induction t with
  | zero =>
    have e1 : (vcarry i x0 0 ht).1 (ix3 n s l) = (⊤ : EReal) := start_at (ix3 n s l)
    have e2 : ((vcarry i x0 0 ht).2 (ix3 n s l)).toNat = 0 := rfl
    rw [e1, e2]
    exact held_zero _
  | succ t ih =>
    have hc : vcost i x0 t ht (ix3 n s l)
        = cost ((i 1).val * 8 + n.val) (i 0).val w (t * 1024 + (s.val * 128 + l.val)) := by
      rw [vcost_at, hx, cost, Nat.add_assoc]
    have ih' := ih (Nat.le_of_succ_le ht)
    rw [vcarry_fst, vcarry_snd, hc]
    by_cases h : cost ((i 1).val * 8 + n.val) (i 0).val w (t * 1024 + (s.val * 128 + l.val))
        < (vcarry i x0 t (Nat.le_of_succ_le ht)).1 (ix3 n s l)
    · rw [if_pos h, if_pos h, BitVec.toNat_ofNat, Nat.mod_eq_of_lt (by omega)]
      exact ih'.take h
    · rw [if_neg h, if_neg h]
      exact ih'.leave h

end Cert.KernelIdeal.ByHand

end
-- ==== Proof.Least.lean ====
/-
The least of a block over its sublanes and lanes: for costs it bounds each and is one of them; for words read signed it
bounds each and is one of them or the largest word.
-/
module

public import proofs.«01_k».proof.Proof.KernelDraw

@[expose] public section

noncomputable section

namespace Cert.KernelIdeal.ByHand

open Cert.KernelIdeal Cert.KernelIdeal.Gen Idealize.ShloMosaic Idealize.ShloMosaic.TcCoe

/-- The pattern of infinity is the top. -/
theorem ofBits_top : Ideal.ofBits .f32 0x7F800000#32 = (⊤ : EReal) := by
  simp [Ideal.ofBits, Ideal.ieee]

/-- A minimum folded from the top over a nonempty finite family bounds each and is one of them. -/
theorem fold_min_spec {m : ℕ} (f : Fin (m + 1) → EReal) :
    (∀ k, Finset.univ.fold min ⊤ f ≤ f k) ∧ ∃ k, Finset.univ.fold min ⊤ f = f k := by
  constructor
  · exact fun k => (Finset.le_fold_min _).1 le_rfl |>.2 k (Finset.mem_univ k)
  · obtain ⟨k, -, h⟩ := Finset.exists_mem_eq_inf Finset.univ Finset.univ_nonempty f
    exact ⟨k, h⟩

/-- The block's least cost of sample `n`, read at a position. -/
theorem vleast_at (v : FVec Ideal S8x8x128 .f32) (n s : Fin 8) (l : Fin 128) :
    vleast v (ix3 n s l)
      = Finset.univ.fold min ⊤ fun a : Fin 8 => Finset.univ.fold min ⊤ fun b : Fin 128 => v (ix3 n a b) := by
  unfold vleast
  simp only [pointwise, ofBits_top]
  rfl

/-- The block's least cost of a sample bounds each and is one of them. -/
theorem vleast_spec (v : FVec Ideal S8x8x128 .f32) (n s : Fin 8) (l : Fin 128) :
    (∀ a b, vleast v (ix3 n s l) ≤ v (ix3 n a b)) ∧ ∃ a b, vleast v (ix3 n s l) = v (ix3 n a b) := by
  rw [vleast_at]
  constructor
  · exact fun a b => ((fold_min_spec _).1 a).trans ((fold_min_spec _).1 b)
  · obtain ⟨a, ha⟩ := (fold_min_spec fun a : Fin 8 => Finset.univ.fold min ⊤ fun b : Fin 128 => v (ix3 n a b)).2
    obtain ⟨b, hb⟩ := (fold_min_spec fun b : Fin 128 => v (ix3 n a b)).2
    exact ⟨a, b, ha.trans hb⟩

/-- The signed minimum of two words bounds both and is one of them. -/
theorem minsi_spec (x y : BitVec 32) : (IntOp.minsi x y).toInt ≤ x.toInt ∧ (IntOp.minsi x y).toInt ≤ y.toInt
    ∧ (IntOp.minsi x y = x ∨ IntOp.minsi x y = y) := by
  unfold IntOp.minsi
  by_cases h : x.slt y
  · rw [if_pos h]
    rw [BitVec.slt_iff_toInt_lt] at h
    exact ⟨le_rfl, h.le, .inl rfl⟩
  · rw [if_neg h]
    rw [BitVec.slt_iff_toInt_lt] at h
    exact ⟨not_lt.1 h, le_rfl, .inr rfl⟩

/-- A signed minimum folded from the largest word bounds each and is one of them or that word. -/
theorem fold_minsi_spec {ι : Type} [DecidableEq ι] (S : Finset ι) (f : ι → BitVec 32) :
    (∀ k ∈ S, (S.fold IntOp.minsi 2147483647#32 f).toInt ≤ (f k).toInt)
      ∧ (S.fold IntOp.minsi 2147483647#32 f = 2147483647#32 ∨ ∃ k ∈ S, S.fold IntOp.minsi 2147483647#32 f = f k) := by
  induction S using Finset.induction_on with
  | empty => exact ⟨fun _ h => absurd h (Finset.notMem_empty _), .inl rfl⟩
  | insert a S ha ih =>
    rw [Finset.fold_insert ha]
    obtain ⟨h1, h2, h3⟩ := minsi_spec (f a) (S.fold IntOp.minsi 2147483647#32 f)
    refine ⟨fun k hk => ?_, ?_⟩
    · rcases Finset.mem_insert.1 hk with c | c
      · exact c ▸ h1
      · exact h2.trans (ih.1 k c)
    · rcases h3 with c | c
      · exact .inr ⟨a, Finset.mem_insert_self _ _, c⟩
      · rw [c]
        exact ih.2.imp id fun ⟨k, hk, e⟩ => ⟨k, Finset.mem_insert_of_mem hk, e⟩

/-- The block's least word of sample `n`, read at an output position. -/
theorem vleastIdx_at (v : IVec S8x8x128 32) (n : Fin 8) (l : Fin 128) :
    vleastIdx v (ix5 0 0 n 0 l)
      = Finset.univ.fold IntOp.minsi 2147483647#32 fun a : Fin 8 =>
          Finset.univ.fold IntOp.minsi 2147483647#32 fun b : Fin 128 => v (ix3 n a b) := by
  unfold vleastIdx
  simp only [pointwise]
  rfl

/-- The block's least word of a sample bounds each and is one of them or the largest word. -/
theorem vleastIdx_spec (v : IVec S8x8x128 32) (n : Fin 8) (l : Fin 128) :
    (∀ a b, (vleastIdx v (ix5 0 0 n 0 l)).toInt ≤ (v (ix3 n a b)).toInt)
      ∧ (vleastIdx v (ix5 0 0 n 0 l) = 2147483647#32 ∨ ∃ a b, vleastIdx v (ix5 0 0 n 0 l) = v (ix3 n a b)) := by
  rw [vleastIdx_at]
  constructor
  · exact fun a b => ((fold_minsi_spec _ _).1 a (Finset.mem_univ a)).trans ((fold_minsi_spec _ _).1 b (Finset.mem_univ b))
  · rcases (fold_minsi_spec Finset.univ fun a : Fin 8 =>
        Finset.univ.fold IntOp.minsi 2147483647#32 fun b : Fin 128 => v (ix3 n a b)).2 with h | ⟨a, -, ha⟩
    · exact .inl h
    · rcases (fold_minsi_spec Finset.univ fun b : Fin 128 => v (ix3 n a b)).2 with h | ⟨b, -, hb⟩
      · exact .inl (ha.trans h)
      · exact .inr ⟨a, b, ha.trans hb⟩

end Cert.KernelIdeal.ByHand

end
-- ==== Proof.Chosen.lean ====
/-
The index a block writes for a sample is the first one of least cost.
-/
module

public import proofs.«01_k».proof.Proof.Carry
public import proofs.«01_k».proof.Proof.Least

@[expose] public section

noncomputable section

namespace Cert.KernelIdeal.ByHand

open Cert.KernelIdeal Cert.KernelIdeal.Gen Idealize.ShloMosaic Idealize.ShloMosaic.TcCoe Cert.Draw Cert.First

/-- The number of a position within its tile. -/
theorem lane_at (n a : Fin 8) (b : Fin 128) : k0_pay5 (ix3 n a b) = BitVec.ofNat 32 (a.val * 128 + b.val) := by
  have e : k0_pay5 (ix3 n a b) = BitVec.ofNat 32 (0 * 8 + a.val) * 128#32 + BitVec.ofNat 32 (0 * 128 + b.val) := rfl
  rw [e, Nat.zero_mul, Nat.zero_add, Nat.zero_add, ← BitVec.ofNat_mul, ← BitVec.ofNat_add]

/-- What a position offers: its index where it is at its sample's least, else the largest word. -/
def offers (c : FVec Ideal S8x8x128 .f32 × IVec S8x8x128 32) : IVec S8x8x128 32 :=
  select (cmpf .oeq c.1 (vleast c.1)) (addi (muli c.2 (broadcast S8x8x128 1024#32)) k0_pay5)
    (broadcast S8x8x128 2147483647#32)

/-- An offer, read at a position. -/
theorem offers_at (c : FVec Ideal S8x8x128 .f32 × IVec S8x8x128 32) (n a : Fin 8) (b : Fin 128) :
    offers c (ix3 n a b) = if c.1 (ix3 n a b) = vleast c.1 (ix3 n a b)
      then c.2 (ix3 n a b) * 1024#32 + BitVec.ofNat 32 (a.val * 128 + b.val) else 2147483647#32 := by
  rw [← lane_at n]
  exact select_oeq _ _ _ _

/-- The least of a sample is the same at each of its positions. -/
theorem vleast_same (v : FVec Ideal S8x8x128 .f32) (n a a' : Fin 8) (b b' : Fin 128) :
    vleast v (ix3 n a b) = vleast v (ix3 n a' b') := by rw [vleast_at, vleast_at]

/-- A tile's number and a position's, as a number. -/
theorem offer_toNat (t : BitVec 32) (ht : t.toNat < 32) (p : ℕ) (hp : p < 1024) :
    (t * 1024#32 + BitVec.ofNat 32 p).toNat = t.toNat * 1024 + p := by
  rw [BitVec.toNat_add, BitVec.toNat_mul, BitVec.toNat_ofNat, BitVec.toNat_ofNat]
  omega

/-- A word below half the range read signed is itself. -/
theorem toInt_small (x : BitVec 32) (h : x.toNat < 2147483648) : x.toInt = x.toNat :=
  BitVec.toInt_eq_toNat_of_lt (by omega)

/-- The index written for a sample is the first of least cost. -/
theorem vchosen_first (c : FVec Ideal S8x8x128 .f32 × IVec S8x8x128 32) (f : ℕ → EReal) (n : Fin 8) (l : Fin 128)
    (hb : ∀ (a : Fin 8) (b : Fin 128), Held (fun t => f (t * 1024 + (a.val * 128 + b.val))) 32
      (c.1 (ix3 n a b)) (c.2 (ix3 n a b)).toNat) : First f (vchosen c (ix5 0 0 n 0 l)).toNat := by
  obtain ⟨hle, a0, b0, h0⟩ := vleast_spec c.1 n 0 0
  obtain ⟨kle, hk⟩ := vleastIdx_spec (offers c) n l
  have small : ∀ a b, (c.2 (ix3 n a b)).toNat < 32 := fun a b => ((hb a b).first (by norm_num)).1
  have off : ∀ (a : Fin 8) (b : Fin 128), c.1 (ix3 n a b) = vleast c.1 (ix3 n 0 0) →
      (offers c (ix3 n a b)).toNat = (c.2 (ix3 n a b)).toNat * 1024 + (a.val * 128 + b.val) := fun a b e => by
    rw [offers_at, if_pos (e.trans (vleast_same _ _ _ _ _ _)), offer_toNat _ (small a b) _ (by omega)]
  have offNot : ∀ (a : Fin 8) (b : Fin 128), c.1 (ix3 n a b) ≠ vleast c.1 (ix3 n 0 0) →
      offers c (ix3 n a b) = 2147483647#32 := fun a b e => by
    rw [offers_at, if_neg fun h => e (h.trans (vleast_same _ _ _ _ _ _))]
  have Kdef : vchosen c = vleastIdx (offers c) := rfl
  rw [Kdef]
  generalize vleastIdx (offers c) (ix5 0 0 n 0 l) = K at kle hk
  have K0 : K.toInt ≤ 32767 := by
    have h1 := off a0 b0 h0.symm
    have h2 := small a0 b0
    have h3 := kle a0 b0
    rw [toInt_small (offers c (ix3 n a0 b0)) (by omega), h1] at h3
    omega
  have Kne : K ≠ 2147483647#32 := fun e => by
    rw [e] at K0
    exact absurd K0 (by decide)
  rcases hk with e | ⟨a1, b1, e⟩
  · exact absurd e Kne
  have h1 : c.1 (ix3 n a1 b1) = vleast c.1 (ix3 n 0 0) := by
    by_contra h
    exact Kne (e.trans (offNot a1 b1 h))
  have Keq : K.toNat = (c.2 (ix3 n a1 b1)).toNat * 1024 + (a1.val * 128 + b1.val) := by rw [e, off a1 b1 h1]
  have KInt : K.toInt = K.toNat := toInt_small _ (by have := small a1 b1; omega)
  have ofs : ∀ p, p < 1024 → (Fin.ofNat 8 (p / 128)).val * 128 + (Fin.ofNat 128 p).val = p := fun p hp => by
    simp only [Fin.ofNat]
    omega
  have back : ∀ (a : Fin 8) (b : Fin 128),
      Fin.ofNat 8 ((a.val * 128 + b.val) / 128) = a ∧ Fin.ofNat 128 (a.val * 128 + b.val) = b := fun a b => by
    constructor <;> apply Fin.ext <;> simp only [Fin.ofNat] <;> omega
  refine first_of_lanes f (fun p => c.1 (ix3 n (Fin.ofNat 8 (p / 128)) (Fin.ofNat 128 p)))
    (fun p => (c.2 (ix3 n (Fin.ofNat 8 (p / 128)) (Fin.ofNat 128 p))).toNat) (fun p hp => ?_)
    (vleast c.1 (ix3 n 0 0)) (fun p hp => hle _ _) K.toNat (fun p hp hm => ?_) (a1.val * 128 + b1.val) (by omega) ?_ ?_
  · have := hb (Fin.ofNat 8 (p / 128)) (Fin.ofNat 128 p)
    rwa [ofs p hp] at this
  · have h2 := off _ _ hm
    have h3 := kle (Fin.ofNat 8 (p / 128)) (Fin.ofNat 128 p)
    have h4 := small (Fin.ofNat 8 (p / 128)) (Fin.ofNat 128 p)
    rw [ofs p hp] at h2
    rw [KInt, toInt_small (offers c _) (by omega), h2] at h3
    exact_mod_cast h3
  · simp only [back]
    exact h1
  · simp only [back]
    exact Keq

end Cert.KernelIdeal.ByHand

end
-- ==== Proof.RefAt.lean ====
/-
The reference's draws read at an index: each is the draw of its sample, row and column.
-/
module

public import proofs.«01_k».proof.Proof.RefSpec
public import proofs.«01_k».proof.Proof.Draw
public import Idealize.ShloMosaic.Lib.Pointwise

@[expose] public section

noncomputable section

namespace Cert.ReferenceIdeal.ByHand

open Cert.ReferenceIdeal Cert.ReferenceIdeal.Gen Idealize.ShloMosaic Cert.Draw

/-- A pair of arrays of words at one index. -/
def rat (j : S32768x64x32768.Idx) (p : Words) : Pair := (p.1 j, p.2 j)

/-- A shift left by less than the width is one shift on the host and on the vector unit. -/
theorem shli_host (x l : BitVec 32) (h : l.toNat < 32) : IntOp.shli .host x l = IntOp.shli .vector x l := by
  unfold IntOp.shli
  rw [if_pos h, if_pos h]

/-- A shift right by less than the width is one shift on the host and on the vector unit. -/
theorem shrui_host (x l : BitVec 32) (h : l.toNat < 32) : IntOp.shrui .host x l = IntOp.shrui .vector x l := by
  unfold IntOp.shrui
  rw [if_pos h, if_pos h]

/-- A round of the reference's mixing at an index. -/
theorem rround_at (l r : BitVec 32) (hl : l.toNat < 32) (hr : r.toNat < 32) (j : S32768x64x32768.Idx) (p : Words) :
    rat j (rround l r p) = sround l r (rat j p) := by
  have e : rat j (rround l r p)
      = (p.1 j + p.2 j, (p.1 j + p.2 j) ^^^ (IntOp.shli .host (p.2 j) l ||| IntOp.shrui .host (p.2 j) r)) := rfl
  rw [e, shli_host _ _ hl, shrui_host _ _ hr, BitVec.xor_comm]
  rfl

/-- The key words added at an index. -/
theorem rinject_at (a b c : BitVec 32) (j : S32768x64x32768.Idx) (p : Words) :
    rat j (rinject (constantI S_ 32 a) (constantI S_ 32 b) c p) = sinject a (b + c) (rat j p) := by
  have e : rat j (rinject (constantI S_ 32 a) (constantI S_ 32 b) c p) = (p.1 j + a, p.2 j + b + c) := rfl
  rw [e, BitVec.add_assoc]
  rfl

/-- The four odd rounds at an index. -/
theorem rodd_at (j : S32768x64x32768.Idx) (p : Words) : rat j (rodd p) = sodd (rat j p) := by
  rw [rodd, rround_at _ _ (by decide) (by decide), rround_at _ _ (by decide) (by decide),
    rround_at _ _ (by decide) (by decide), rround_at _ _ (by decide) (by decide), sodd]

/-- The four even rounds at an index. -/
theorem reven_at (j : S32768x64x32768.Idx) (p : Words) : rat j (reven p) = seven (rat j p) := by
  rw [reven, rround_at _ _ (by decide) (by decide), rround_at _ _ (by decide) (by decide),
    rround_at _ _ (by decide) (by decide), rround_at _ _ (by decide) (by decide), seven]

/-- The third key word under the key (0, 42). -/
theorem rthird_eq : rthird (constantI S_ 32 0#32) (constantI S_ 32 42#32) = constantI S_ 32 466689008#32 := by
  funext j
  have e : rthird (constantI S_ 32 0#32) (constantI S_ 32 42#32) j = (0#32 ^^^ 42#32) ^^^ 466688986#32 := rfl
  rw [e]
  rfl

/-- The reference's mixing under the key (0, 42) at an index. -/
theorem rmix_at (j : S32768x64x32768.Idx) (p : Words) :
    rat j (rmix (constantI S_ 32 0#32) (constantI S_ 32 42#32) p) = smix (p.1 j, p.2 j + 42#32) := by
  have e : rat j (addi p.1 (rfill (constantI S_ 32 0#32)), addi p.2 (rfill (constantI S_ 32 42#32)))
      = (p.1 j + 0#32, p.2 j + 42#32) := rfl
  rw [rmix, rthird_eq]
  simp only [rinject_at, rodd_at, reven_at]
  rw [e, BitVec.add_zero]
  rfl

/-- The key's high word is zero. -/
theorem rkey0_eq : rkey0 = constantI S_ 32 0#32 := by
  funext j
  decide +revert

/-- The key's low word is the seed. -/
theorem rkey1_eq : rkey1 = constantI S_ 32 42#32 := by
  funext j
  decide +revert

/-- The counter at an index. -/
theorem rcount_at (n : Fin 32768) (b : Fin 64) (k : Fin 32768) :
    (rcount (ix3 n b k)).toNat = n.val * 2097152 + b.val * 32768 + k.val := by
  have hn := n.isLt
  have hb := b.isLt
  have hk := k.isLt
  have e : rcount (ix3 n b k) = 2097152#64 * BitVec.ofNat 64 n.val + 32768#64 * BitVec.ofNat 64 b.val
      + 1#64 * BitVec.ofNat 64 k.val := rfl
  rw [e, ← BitVec.ofNat_mul, ← BitVec.ofNat_mul, ← BitVec.ofNat_mul, ← BitVec.ofNat_add, ← BitVec.ofNat_add, BitVec.toNat_ofNat]
  omega

/-- The reference's words at an index are the counter's words of its sample, row and column. -/
theorem rwords_at (n : Fin 32768) (b : Fin 64) (k : Fin 32768) :
    (rwords.1 (ix3 n b k), rwords.2 (ix3 n b k) + 42#32) = word n.val b.val k.val := by
  have hn := n.isLt
  have hb := b.isLt
  have hk := k.isLt
  have e1 : rwords.1 (ix3 n b k) = (rcount (ix3 n b k) >>> (32 : ℕ)).setWidth 32 := rfl
  have e2 : rwords.2 (ix3 n b k) = (rcount (ix3 n b k)).setWidth 32 := rfl
  refine Prod.ext ?_ ?_
  · rw [e1]
    apply BitVec.eq_of_toNat_eq
    rw [BitVec.toNat_setWidth, BitVec.toNat_ushiftRight, rcount_at, Nat.shiftRight_eq_div_pow, word, BitVec.toNat_ofNat]
    omega
  · rw [e2, word]
    refine congrArg (· + 42#32) ?_
    apply BitVec.eq_of_toNat_eq
    rw [BitVec.toNat_setWidth, rcount_at, BitVec.toNat_ofNat]

/-- The reference's fraction of words at an index. -/
theorem rfraction_at (p : Words) (j : S32768x64x32768.Idx) : rfraction (F := Ideal) p j = fraction (rat j p) := by
  have e : rfraction (F := Ideal) p j
      = Ideal.ofBits .f32 (IntOp.shrui .host (p.1 j ^^^ p.2 j) 9#32 ||| 1065353216#32) - Ideal.ofBits .f32 0x3F800000#32 := rfl
  rw [e, shrui_host _ _ (by decide)]
  rfl

/-- The reference's draw at an index is the draw of its sample, row and column. -/
theorem runiform_at (n : Fin 32768) (b : Fin 64) (k : Fin 32768) :
    runiform (F := Ideal) (ix3 n b k) = draw n.val b.val k.val := by
  have e : ∀ p : Words, maximumf (rlaid (F := Ideal) rlo) (addf (mulf (rfraction p) (rlaid (subf rhi rlo))) (rlaid rlo)) (ix3 n b k)
      = max (Ideal.ofBits .f32 0x00000000#32) (rfraction (F := Ideal) p (ix3 n b k)
        * (Ideal.ofBits .f32 0x3F800000#32 - Ideal.ofBits .f32 0x00000000#32) + Ideal.ofBits .f32 0x00000000#32) := fun _ => rfl
  rw [runiform, e, rfraction_at, rkey0_eq, rkey1_eq, rmix_at, rwords_at, Ideal.ofBits_zero_f32, Ideal.ofBits_one_f32, draw]
  obtain ⟨r, hr, h0, -⟩ := fraction_mem (smix (word n.val b.val k.val))
  rw [hr, sub_zero, mul_one, add_zero]
  exact max_eq_right (by exact_mod_cast h0)

end Cert.ReferenceIdeal.ByHand

end
-- ==== Proof.Argmax.lean ====
/-
The reference's argmax: the index it returns is the least of those at which the row is largest.
-/
module

public import proofs.«01_k».proof.Proof.RefSpec
public import Idealize.ShloMosaic.PureOps.Ideal.Laws
public import Idealize.ShloMosaic.Lib.Pointwise

@[expose] public section

noncomputable section

namespace Cert.ReferenceIdeal.ByHand

open Cert.ReferenceIdeal Cert.ReferenceIdeal.Gen Idealize.ShloMosaic Idealize.ShloMosaic.TcCoe

/-- The pair `p` comes before `q`: its value is larger, or equal with an index no larger. -/
def Before (p q : Ideal .f32 × BitVec 32) : Prop := (q.1 : EReal) < p.1 ∨ ((p.1 : EReal) = q.1 ∧ p.2.toInt ≤ q.2.toInt)

/-- `Before` is transitive. -/
theorem Before.trans {p q r : Ideal .f32 × BitVec 32} (h : Before p q) (h' : Before q r) : Before p r := by
  rcases h with h | ⟨h, i⟩
  · rcases h' with h' | ⟨h', -⟩
    · exact .inl (lt_trans h' h)
    · exact .inl (h' ▸ h)
  · rcases h' with h' | ⟨h', i'⟩
    · exact .inl (h ▸ h')
    · exact .inr ⟨h.trans h', i.trans i'⟩

/-- A pair comes before itself. -/
theorem Before.refl (p : Ideal .f32 × BitVec 32) : Before p p := .inr ⟨rfl, le_rfl⟩

/-- The reducer picks the first pair exactly when its value is larger, or equal with a smaller index. -/
theorem reducer_spec (a b : Ideal .f32 × BitVec 32) :
    (reducer_argmax_f32_i32 a b = a ∨ reducer_argmax_f32_i32 a b = b)
      ∧ Before (reducer_argmax_f32_i32 a b) a ∧ Before (reducer_argmax_f32_i32 a b) b := by
  obtain ⟨x, i⟩ := a
  obtain ⟨y, j⟩ := b
  have key : reducer_argmax_f32_i32 (F := Ideal) (x, i) (y, j)
      = (if (y : EReal) < x then x else y, if (y : EReal) < x ∨ ((x : EReal) = y ∧ i.toInt < j.toInt) then i else j) := by
    by_cases h : (y : EReal) < x <;> by_cases e : (x : EReal) = y <;> by_cases k : i.toInt < j.toInt <;>
      simp [reducer_argmax_f32_i32, Scalar.select, Ideal.cmpf_def, Ideal.cmp, IntOp.ori, IntOp.andi, IntOp.cmpi,
        BitVec.slt_eq_decide, h, e, k]
  rw [key]
  by_cases h : (y : EReal) < x
  · rw [if_pos h, if_pos (Or.inl h)]
    exact ⟨.inl rfl, .refl _, .inl h⟩
  · by_cases e : (x : EReal) = y ∧ i.toInt < j.toInt
    · rw [if_neg h, if_pos (Or.inr e), ← e.1]
      exact ⟨.inl rfl, .refl _, .inr ⟨rfl, e.2.le⟩⟩
    · rw [if_neg h, if_neg (not_or.2 ⟨h, e⟩)]
      refine ⟨.inr rfl, ?_, .refl _⟩
      rcases lt_or_eq_of_le (not_lt.1 h) with c | c
      · exact .inl c
      · exact .inr ⟨c.symm, not_lt.1 fun k => e ⟨c, k⟩⟩

/-- Folding the reducer gives the start or a pair of the list, and it comes before all of them. -/
theorem foldl_spec (L : List (Ideal .f32 × BitVec 32)) (a : Ideal .f32 × BitVec 32) :
    (L.foldl reducer_argmax_f32_i32 a = a ∨ L.foldl reducer_argmax_f32_i32 a ∈ L)
      ∧ Before (L.foldl reducer_argmax_f32_i32 a) a ∧ ∀ q ∈ L, Before (L.foldl reducer_argmax_f32_i32 a) q := by
  induction L generalizing a with
  | nil => exact ⟨.inl rfl, .refl _, fun _ h => absurd h List.not_mem_nil⟩
  | cons b L ih =>
    obtain ⟨h1, h2, h3⟩ := ih (reducer_argmax_f32_i32 a b)
    obtain ⟨k1, k2, k3⟩ := reducer_spec a b
    rw [List.foldl_cons]
    refine ⟨?_, h2.trans k2, fun q hq => ?_⟩
    · rcases h1 with h1 | h1
      · rcases k1 with k1 | k1
        · exact .inl (h1.trans k1)
        · rw [h1, k1]
          exact .inr List.mem_cons_self
      · exact .inr (List.mem_cons_of_mem _ h1)
    · rcases List.mem_cons.1 hq with c | c
      · exact c ▸ h2.trans k3
      · exact h3 q c

/-- The pairs the argmax runs over are the row's values with their indices. -/
theorem mem_fiber (x : FVec Ideal S32768x64x32768 .f32) (n : Fin 32768) (b : Fin 64) (p : Ideal .f32 × BitVec 32) :
    p ∈ Host.argReduceFiber x (iotaInDim S32768x64x32768 32 2) reducesTo_S32768x64x32768_S32768x64_d2 (ix2 n b)
      ↔ ∃ k : Fin 32768, p = (x (ix3 n b k), BitVec.ofNat 32 k.val) := by
  unfold Host.argReduceFiber
  rw [List.mem_map]
  constructor
  · rintro ⟨q, hq, rfl⟩
    rw [List.mem_filter] at hq
    obtain ⟨k, hk⟩ := (Shape.ReducesTo.fiber_r3_a2 _ _ _).1 (of_decide_eq_true hq.2)
    refine ⟨k, ?_⟩
    rw [← hk]
    rfl
  · rintro ⟨k, rfl⟩
    refine ⟨S32768x64x32768.rowMajor (ix3 n b k), ?_, ?_⟩
    · rw [List.mem_filter]
      refine ⟨List.mem_finRange _, decide_eq_true ?_⟩
      rw [Equiv.symm_apply_apply]
      exact (Shape.ReducesTo.fiber_r3_a2 _ _ _).2 ⟨k, rfl⟩
    · rw [Equiv.symm_apply_apply]
      rfl

/-- The index the argmax returns is the first of the largest. -/
theorem largest_spec (x : FVec Ideal S32768x64x32768 .f32) (n : Fin 32768) (b : Fin 64) :
    ∃ k : Fin 32768, largest x (ix2 n b) = BitVec.ofNat 32 k.val
      ∧ ∀ j : Fin 32768, (x (ix3 n b j) : EReal) < x (ix3 n b k) ∨ ((x (ix3 n b k) : EReal) = x (ix3 n b j) ∧ k ≤ j) := by
  have start : (constant (F := Ideal) S_ .f32 0xFF800000#32 (Shape.Idx.first h_S_), constantI S_ 32 0#32 (Shape.Idx.first h_S_))
      = ((⊥ : EReal), 0#32) := by
    refine Prod.ext ?_ rfl
    show Ideal.ofBits .f32 0xFF800000#32 = (⊥ : EReal)
    simp [Ideal.ofBits, Ideal.ieee]
  have e : largest x (ix2 n b) = ((Host.argReduceFiber x (iotaInDim S32768x64x32768 32 2)
      reducesTo_S32768x64x32768_S32768x64_d2 (ix2 n b)).foldl reducer_argmax_f32_i32 ((⊥ : EReal), 0#32)).2 := by
    rw [largest_eq, ← start, Ideal.argReduce_eq_reduce2]
    exact congrArg Prod.snd (Host.reduce2_eq_foldl_fiber _ _ _ _ _ _ _ _)
  rw [e]
  obtain ⟨h1, -, h3⟩ := foldl_spec (Host.argReduceFiber x (iotaInDim S32768x64x32768 32 2)
      reducesTo_S32768x64x32768_S32768x64_d2 (ix2 n b)) ((⊥ : EReal), 0#32)
  generalize List.foldl _ _ _ = r at h1 h3
  have h4 : ∃ k : Fin 32768, r = (x (ix3 n b k), BitVec.ofNat 32 k.val) := by
    rcases h1 with h1 | h1
    · refine ⟨0, ?_⟩
      rcases h3 _ ((mem_fiber x n b _).2 ⟨0, rfl⟩) with c | c
      · rw [h1] at c
        exact absurd c not_lt_bot
      · rw [h1] at c ⊢
        exact Prod.ext c.1 rfl
    · exact (mem_fiber x n b _).1 h1
  obtain ⟨k, rfl⟩ := h4
  refine ⟨k, rfl, fun j => (h3 _ ((mem_fiber x n b _).2 ⟨j, rfl⟩)).imp id fun c => ⟨c.1, ?_⟩⟩
  have hk : ∀ i : Fin 32768, (BitVec.ofNat 32 i.val).toInt = i.val := fun i => by
    rw [BitVec.toInt_eq_toNat_of_lt] <;> rw [BitVec.toNat_ofNat, Nat.mod_eq_of_lt (by omega)]
    omega
  have := c.2
  simp only [hk] at this
  exact Fin.le_def.2 (by exact_mod_cast this)

end Cert.ReferenceIdeal.ByHand

end
-- ==== Proof.Sampled.lean ====
/-
The index the reference samples is the first one of least cost.
-/
module

public import proofs.«01_k».proof.Proof.RefAt
public import proofs.«01_k».proof.Proof.Argmax
public import proofs.«01_k».proof.Proof.Cost

@[expose] public section

noncomputable section

namespace Cert.ReferenceIdeal.ByHand

open Cert.ReferenceIdeal Cert.ReferenceIdeal.Gen Idealize.ShloMosaic Idealize.ShloMosaic.TcCoe Cert.First Cert.Draw

/-- A row of log-weights by the number of the column. -/
def rowOf (l : FVec Ideal S64x32768 .f32) (b : Fin 64) (k : ℕ) : EReal := l (ix2 b (Fin.ofNat 32768 k))

/-- A row at a column. -/
theorem rowOf_val (l : FVec Ideal S64x32768 .f32) (b : Fin 64) (k : Fin 32768) : rowOf l b k.val = l (ix2 b k) := by
  have e : Fin.ofNat 32768 k.val = k := Fin.ext (Nat.mod_eq_of_lt k.isLt)
  rw [rowOf, e]

/-- A perturbed log-weight, written out. -/
theorem perturbed_at (u : FVec Ideal S32768x64x32768 .f32) (l : FVec Ideal S64x32768 .f32) (n : Fin 32768) (b : Fin 64)
    (k : Fin 32768) : perturbed u l (ix3 n b k) = -Ideal.log (-Ideal.log (u (ix3 n b k))) + l (ix2 b k) := by
  unfold perturbed
  simp only [pointwise]
  rfl

/-- The axes of the indices exchanged. -/
theorem turned_at (y : IVec S32768x64 32) (n : Fin 32768) (b : Fin 64) :
    transpose S64x32768 [1, 0] y transposes_S32768x64_S64x32768_1_0 (ix2 b n) = y (ix2 n b) := by
  simp only [pointwise]

/-- The sampled indices are the argmax's with the axes exchanged. -/
theorem sampledOf_at (u : FVec Ideal S32768x64x32768 .f32) (l : FVec Ideal S64x32768 .f32) (n : Fin 32768) (b : Fin 64) :
    sampledOf u l (ix2 b n) = largest (perturbed u l) (ix2 n b) := by
  rw [sampledOf, turned_at]

/-- Draws with the reference's values sample the first column of least cost. -/
theorem sampledOf_first (u : FVec Ideal S32768x64x32768 .f32) (l : FVec Ideal S64x32768 .f32) (n : Fin 32768) (b : Fin 64)
    (hu : ∀ k : Fin 32768, u (ix3 n b k) = draw n.val b.val k.val) (hl : ∀ k, (l (ix2 b k) : EReal) ≠ ⊤) :
    First (cost n.val b.val (rowOf l b)) (sampledOf u l (ix2 b n)).toNat := by
  have hv : ∀ k : Fin 32768, (perturbed u l (ix3 n b k) : EReal) = -cost n.val b.val (rowOf l b) k.val := fun k => by
    rw [perturbed_at, hu, ← rowOf_val l b k]
    exact perturbed_eq _ _ _ _ (by rw [rowOf_val]; exact hl k)
  rw [sampledOf_at]
  obtain ⟨k, hk, h⟩ := largest_spec (perturbed u l) n b
  rw [hk, BitVec.toNat_ofNat, Nat.mod_eq_of_lt (by omega)]
  simp only [hv, EReal.neg_lt_neg_iff, neg_inj] at h
  refine ⟨k.isLt, fun j hj => ?_, fun j hj => ?_⟩
  · rcases h ⟨j, hj⟩ with c | c
    · exact c.le
    · exact c.1.le
  · rcases h ⟨j, by omega⟩ with c | c
    · exact c
    · exact absurd (Fin.le_def.1 c.2) (by simpa using hj)

/-- The reference samples, for each row and sample, the first column of least cost. -/
theorem sampled_first (l : FVec Ideal S64x32768 .f32) (n : Fin 32768) (b : Fin 64) (hl : ∀ k, (l (ix2 b k) : EReal) ≠ ⊤) :
    First (cost n.val b.val (rowOf l b)) (sampled l (ix2 b n)).toNat :=
  by rw [sampled]; exact sampledOf_first _ l n b (fun k => runiform_at n b k) hl

end Cert.ReferenceIdeal.ByHand

end
-- ==== Proof.Array.lean ====
/-
The region's result array: at each row and sample, the first column of least cost.
-/
module

public import proofs.«01_k».proof.Proof.Held
public import proofs.«01_k».proof.Proof.Chosen
public import proofs.«01_k».proof.Proof.Sampled
public import proofs.«01_k».proof.Proof.Used
public import Idealize.ShloMosaic.Lib.Pipeline.ValueKit
public import Idealize.ShloMosaic.Lib.Pipeline.Covers

@[expose] public section

noncomputable section

namespace Cert.KernelIdeal.ByHand

open Cert.KernelIdeal Cert.KernelIdeal.Gen Idealize.ShloMosaic Idealize.ShloMosaic.TcCoe Cert.KernelIdeal.Value Cert.First
open Cert.ReferenceIdeal.ByHand (used used_ne_top rowOf rowOf_val sampled sampled_first)

/-- A word of a coordinate is the coordinate. -/
theorem coord_word (n : ℕ) (h : n < 4096) : (BitVec.ofNat 32 n).toNat = n := by
  rw [BitVec.toNat_ofNat, Nat.mod_eq_of_lt (by omega)]

/-- Every block of the result array is some point's. -/
theorem covers : (cfg0.win 1).Covers := by
  refine Pipeline.Window.covers_of_indexMap_surj _ rfl (by decide) fun β => ?_
  have h0 : (β 0).val < 64 := (β 0).isLt
  have h1 : (β 1).val < 4096 := (β 1).isLt
  have h2 : (β 2).val < 1 := (β 2).isLt
  have h3 : (β 3).val < 1 := (β 3).isLt
  have h4 : (β 4).val < 1 := (β 4).isLt
  refine ⟨fun | 0 => ⟨(β 0).val, h0⟩ | 1 => ⟨(β 1).val, h1⟩, fun a => ?_⟩
  fin_cases a
  · exact coord_word (β 0).val (by omega)
  · exact coord_word _ h1
  · exact (Nat.lt_one_iff.1 h2).symm
  · exact (Nat.lt_one_iff.1 h3).symm
  · exact (Nat.lt_one_iff.1 h4).symm

/-- The body's output at a position. -/
theorem out_at (i : grid0.Coords) (x0 : Vec Ideal S1x32x8x128 .f32) (y : S1x1x8x1x128.Idx) :
    out0_1 i x0 y = vchosen (vcarry i x0 32 (Nat.le_refl 32)) y := by
  rw [body_eq]
  have e : r0_32.emb y = y := funext fun a => Fin.ext (by
    rw [ValueKit.rect_emb_unit_val]
    fin_cases a <;> exact Nat.zero_add _)
  exact (congrArg _ e.symm).trans (View.canon_cons_emb r0_32 _ [] y)

/-- Which block of the log-weights a point reads. -/
theorem index_in (t : Fin cfg0.N) : win0_0.index t = ![(grid0.coords t 0).val, 0, 0, 0] := by
  have h : (grid0.coords t 0).val < 64 := (grid0.coords t 0).isLt
  funext a
  fin_cases a
  · exact coord_word _ (by omega)
  · rfl
  · rfl
  · rfl

/-- Which block of the result a point writes. -/
theorem index_out (t : Fin cfg0.N) : win0_1.index t = ![(grid0.coords t 0).val, (grid0.coords t 1).val, 0, 0, 0] := by
  have h : (grid0.coords t 0).val < 64 := (grid0.coords t 0).isLt
  have h' : (grid0.coords t 1).val < 4096 := (grid0.coords t 1).isLt
  funext a
  fin_cases a
  · exact coord_word _ (by omega)
  · exact coord_word _ h'
  · rfl
  · rfl
  · rfl

variable (m : (ℓ : Loc nD τ sig) → Buf (Elt Ideal) ℓ)

/-- A row of log-weights laid out as tiles, at a position. -/
theorem tiles_at (x : FVec Ideal S64x32768 .f32) (b : Fin 64) (k : Fin 32) (s : Fin 8) (l : Fin 128) :
    shapeCast S64x32x8x128 x shapeCasts_S64x32768_S64x32x8x128 (ix4 b k s l)
      = x (ix2 b (Fin.ofNat 32768 (k.val * 1024 + s.val * 128 + l.val))) := by
  have e : Fin.ofNat 32768 (k.val * 1024 + s.val * 128 + l.val) = ⟨k.val * 1024 + s.val * 128 + l.val, by omega⟩ :=
    Fin.ext (Nat.mod_eq_of_lt (by omega))
  rw [e]
  simp only [pointwise]

/-- A block of log-weights at a position: its row's log-weight at that column. -/
theorem block_at (c : Dev nD) (t : Fin cfg0.N) (k : Fin 32) (s : Fin 8) (l : Fin 128) :
    iblk m c 0 t (ix4 0 k s l) = rowOf (used (m ((c.tc : Thread nD τ).loc main_arg1))) (grid0.coords t 0)
      (k.val * 1024 + s.val * 128 + l.val) := by
  have e : iblk m c 0 t (ix4 0 k s l) = V m c main_v39 (ix4 (grid0.coords t 0) k s l) := by
    blk_simp [iblk]
    exact congrArg _ (by blk_ext [index_in t])
  rw [e, region_reads, held_eq]
  exact tiles_at _ _ k s l

/-- A point writes, for each of its samples, the index the reference samples. -/
theorem point_writes (c : Dev nD) (t : Fin cfg0.N) (n : Fin 8) (l : Fin 128) (b : Fin 64) (k : Fin 32768)
    (hb : b = grid0.coords t 0) (hk : k.val = (grid0.coords t 1).val * 8 + n.val) :
    out0_1 (grid0.coords t) (iblk m c 0 t) (ix5 0 0 n 0 l)
      = sampled (used (F := Ideal) (m ((c.tc : Thread nD τ).loc main_arg1))) (ix2 b k) := by
  subst hb
  rw [out_at]
  have h1 := vchosen_first _ _ n l fun a d =>
    vcarry_held (grid0.coords t) (iblk m c 0 t) _ (fun k s l => block_at m c t k s l) n a d 32 (Nat.le_refl 32)
  have h2 := sampled_first (used (F := Ideal) (m ((c.tc : Thread nD τ).loc main_arg1))) k (grid0.coords t 0)
    fun j => used_ne_top _ _ j
  rw [hk] at h2
  exact BitVec.eq_of_toNat_eq (h1.unique h2)

/-- The region leaves, at each row and sample, the index the reference samples. -/
theorem region_leaves (c : Dev nD) : reg_main_v40 m c = fun i : S64x4096x8x1x128.Idx =>
    sampled (used (F := Ideal) (m ((c.tc : Thread nD τ).loc main_arg1)))
      (ix2 (i 0) (Fin.ofNat 32768 ((i 1).val * 8 + (i 2).val))) := by
  refine (dats m 0 c).arrAt_eq_of_covers 1 _ covers fun t hf y => ?_
  blk_simp
  rw [after0_1]
  have hy : y = ix5 0 0 (y 2) 0 (y 4) := by
    refine (eq_ix5 y).trans ?_
    congr 1 <;> exact Subsingleton.elim _ _
  have h' : (grid0.coords t 1).val < 4096 := (grid0.coords t 1).isLt
  have hn : (y 2).val < 8 := (y 2).isLt
  refine (congrArg _ hy).trans (point_writes m c t (y 2) (y 4) _ _ ?_ ?_)
  · refine Fin.ext ?_
    blk_simp [index_out t]
  · rw [index_out]
    show ((grid0.coords t 1).val * 8 + (0 * 8 + (y 2).val)) % 32768 = _
    rw [Nat.zero_mul, Nat.zero_add]
    exact Nat.mod_eq_of_lt (by omega)

/-- The first lane of the written blocks, laid out as the samples of each row. -/
theorem unrolled_at (x : IVec S64x4096x8x1x128 32) (b : Fin 64) (n : Fin 32768) :
    shapeCast S64x32768 (shapeCast S64x4096x8 (extractStridedSlice S64x4096x8x1x1 ![0, 0, 0, 0, 0] x
        slices_S64x4096x8x1x128_S64x4096x8x1x1_0_0_0_0_0) shapeCasts_S64x4096x8x1x1_S64x4096x8)
      shapeCasts_S64x4096x8_S64x32768 (ix2 b n)
      = x (ix5 b ⟨n.val / 8, by omega⟩ ⟨n.val % 8, by omega⟩ 0 0) := by
  simp only [pointwise]
  exact congrArg x (funext fun a => by fin_cases a <;> first | rfl | exact Fin.ext (Nat.zero_add _))

/-- The kernel program picks the indices the reference samples. -/
theorem picked_eq (c : Dev nD) : picked m c = sampled (used (F := Ideal) (m ((c.tc : Thread nD τ).loc main_arg1))) := by
  funext j
  obtain ⟨b, n, rfl⟩ : ∃ b n, j = ix2 b n := ⟨j 0, j 1, eq_ix2 j⟩
  refine (unrolled_at (exitV m c (Proc.devRef .tc main_v40)) b n).trans ?_
  rw [exit_main_v40, region_leaves]
  have e : Fin.ofNat 32768 (n.val / 8 * 8 + n.val % 8) = n := Fin.ext (by
    show (n.val / 8 * 8 + n.val % 8) % 32768 = n.val
    omega)
  exact congrArg (fun k => sampled (used (F := Ideal) (m ((c.tc : Thread nD τ).loc main_arg1))) (ix2 b k)) e

end Cert.KernelIdeal.ByHand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Run
public import proofs.«01_k».proof.Proof.RefRun
public import proofs.«01_k».proof.Proof.Array
public import Idealize.ShloMosaic.Adequacy
public import Idealize.ShloMosaic.Init

@[expose] public section

noncomputable section

namespace Cert.Proof

open Idealize.ShloMosaic Idealize.SL.Sem Cert.Kernel

/-- The value named in the kernel is the top. -/
theorem preserved : Cert.preserves_Kernel_KernelIdeal := by
  have h : Cert.KernelIdeal.κ "start" = some ⊤ := by rfl
  exact ⟨h, fun s => IdealRules.named_const.ideal_named _ _ _ _ h, by simp [Named.named, h]⟩

/-- The reference runs, leaves its arguments as launched, and ends with no signal outstanding. -/
theorem reference_frame : Cert.quiescent_ReferenceIdeal := fun m g _ =>
  (θ_run (Cert.ReferenceIdeal.defs (F := Ideal)) _ _).mono
    (fun r h => ⟨fun c => ⟨(h c).2.2.1, (h c).2.2.2⟩, Idealize.ShloMosaic.sem_eq_zero_of_no_sems (by decide) r.2⟩)
    (Cert.ReferenceIdeal.ByHand.run m g)

open Cert.ReferenceIdeal.ByHand (newState newWeight used sampled) in
/-- From the same arguments the kernel and the reference end with the same results. -/
theorem same_results : Cert.algebraic_KernelIdeal_ReferenceIdeal := by
  intro m g m' g' _ hagree
  refine ⟨fun c => newState (F := Ideal) (m ((c.tc : Thread Cert.KernelIdeal.nD Cert.KernelIdeal.τ).loc Cert.KernelIdeal.main_arg0))
      (sampled (used (F := Ideal) (m ((c.tc : Thread Cert.KernelIdeal.nD Cert.KernelIdeal.τ).loc Cert.KernelIdeal.main_arg1)))),
    fun c => newWeight (F := Ideal) (m ((c.tc : Thread Cert.KernelIdeal.nD Cert.KernelIdeal.τ).loc Cert.KernelIdeal.main_arg1))
      (used (F := Ideal) (m ((c.tc : Thread Cert.KernelIdeal.nD Cert.KernelIdeal.τ).loc Cert.KernelIdeal.main_arg1)))
      (sampled (used (F := Ideal) (m ((c.tc : Thread Cert.KernelIdeal.nD Cert.KernelIdeal.τ).loc Cert.KernelIdeal.main_arg1)))), ?_, ?_⟩
  · refine (θ_run (Cert.KernelIdeal.defs (F := Ideal)) _ _).mono (fun r h c => ?_) (Cert.KernelIdeal.ByHand.run_picked m g)
    obtain ⟨h0, h1, h2⟩ := h c
    rw [Cert.KernelIdeal.ByHand.picked_eq] at h0 h1
    rw [Cert.KernelIdeal.ByHand.held_eq] at h1
    exact ⟨h0, h1, h2⟩
  · refine (θ_run (Cert.ReferenceIdeal.defs (F := Ideal)) _ _).mono (fun r h c => ?_) (Cert.ReferenceIdeal.ByHand.run m' g')
    obtain ⟨h0, h1, h2⟩ := h c
    rw [(hagree c).1, (hagree c).2] at h0
    rw [(hagree c).2] at h1
    exact ⟨h0, h1, h2⟩

/-- Everything the certificate claims. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, preserved,
  same_results⟩

end Cert.Proof

end
